-- ==== Defs.lean ====
def Pre_Kernel [hPre_in_vocabulary : Cert.Pre_in_vocabulary.Facts] (m : (ℓ : Loc Cert.Kernel.nD Cert.Kernel.τ Cert.Kernel.sig) → Buf (Elt Bits) ℓ) : Prop :=
  ∀ c : Dev Cert.Kernel.nD,
    (Cert.Pre_in_vocabulary.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_in_vocabulary : Cert.Pre_in_vocabulary.Facts] (m : (ℓ : Loc Cert.KernelIdeal.nD Cert.KernelIdeal.τ Cert.KernelIdeal.sig) → Buf (Elt Ideal) ℓ) : Prop :=
  ∀ c : Dev Cert.KernelIdeal.nD,
    (Cert.Pre_in_vocabulary.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_vocabulary [hPre_in_vocabulary : Cert.Pre_in_vocabulary.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_vocabulary.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] [hPre_in_vocabulary : Cert.Pre_in_vocabulary.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_in_vocabulary : Cert.Pre_in_vocabulary.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_in_vocabulary [hReferenceIdeal : Cert.ReferenceIdeal.Facts] [hPre_in_vocabulary : Cert.Pre_in_vocabulary.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_vocabulary m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_vocabulary : Cert.Pre_in_vocabulary.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_in_vocabulary : Cert.Pre_in_vocabulary.Facts),
    quiescent_Kernel (hKernel := hKernel) (hPre_in_vocabulary := hPre_in_vocabulary)
    ∧ quiescent_KernelIdeal (hKernelIdeal := hKernelIdeal) (hPre_in_vocabulary := hPre_in_vocabulary)
    ∧ quiescent_ReferenceIdeal (hReferenceIdeal := hReferenceIdeal)
    ∧ quiescent_ReferenceIdeal_pre_in_vocabulary (hReferenceIdeal := hReferenceIdeal) (hPre_in_vocabulary := hPre_in_vocabulary)
    ∧ preserves_Kernel_KernelIdeal
    ∧ algebraic_KernelIdeal_ReferenceIdeal (hKernelIdeal := hKernelIdeal) (hReferenceIdeal := hReferenceIdeal) (hPre_in_vocabulary := hPre_in_vocabulary)
-- ==== Pre_in_vocabulary.lean ====
abbrev S4096x200 : Shape := ⟨2, ![4096, 200]⟩
abbrev S100000x128 : Shape := ⟨2, ![100000, 128]⟩
abbrev S25600x32 : Shape := ⟨2, ![25600, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S4096x200 : S_.BroadcastsInDim S4096x200 (![] : Fin 0 → Fin S4096x200.rank)
  reducesTo_S4096x200_S_d0_1 : S4096x200.ReducesTo [0, 1] S_
  h_S_ : 0 < S_.numel

variable [Facts]

def fn {F : FTy → Type} [FloatOps F] (main_arg0 : IVec S4096x200 32) (main_arg1 : FVec F S100000x128 .f32) (main_arg2 : FVec F S25600x32 .f32) (main_arg3 : FVec F S32 .f32) (main_arg4 : FVec F S32x1 .f32) (main_arg5 : FVec F S1 .f32) : IVec S_ 1 :=
  let main_c : IVec S_ 32 := constantI S_ 32 0#32
  let main_v0 : IVec S4096x200 32 := broadcastInDim S4096x200 ![] bcast_S_S4096x200 main_c
  let main_v1 : IVec S4096x200 1 := cmpi .sge main_arg0 main_v0
  let main_c_0 : IVec S_ 32 := constantI S_ 32 100000#32
  let main_v2 : IVec S4096x200 32 := broadcastInDim S4096x200 ![] bcast_S_S4096x200 main_c_0
  let main_v3 : IVec S4096x200 1 := cmpi .slt main_arg0 main_v2
  let main_v4 : IVec S4096x200 1 := andi main_v1 main_v3
  let main_c_1 : IVec S_ 1 := constantI S_ 1 1#1
  let main_v5 : IVec S_ 1 := (fun x v => Host.reduce IntOp.andi x v reducesTo_S4096x200_S_d0_1 h_S_) main_v4 main_c_1
  main_v5
-- ==== Kernel.lean ====
abbrev S4096x200 : Shape := ⟨2, ![4096, 200]⟩
abbrev S100000x128 : Shape := ⟨2, ![100000, 128]⟩
abbrev S25600x32 : Shape := ⟨2, ![25600, 32]⟩
abbrev S32 : Shape := ⟨1, ![32]⟩
abbrev S32x1 : Shape := ⟨2, ![32, 1]⟩
abbrev S1 : Shape := ⟨1, ![1]⟩
abbrev S200x4096 : Shape := ⟨2, ![200, 4096]⟩
abbrev S819200 : Shape := ⟨1, ![819200]⟩
abbrev S819200x128 : Shape := ⟨2, ![819200, 128]⟩
abbrev S25600 : Shape := ⟨1, ![25600]⟩
abbrev S128x128 : Shape := ⟨2, ![128, 128]⟩
abbrev S_ : Shape := ⟨0, ![]⟩
abbrev S128 : Shape := ⟨1, ![128]⟩
abbrev S200x4096x128 : Shape := ⟨3, ![200, 4096, 128]⟩
abbrev S200x128x32 : Shape := ⟨3, ![200, 128, 32]⟩
abbrev S1x32 : Shape := ⟨2, ![1, 32]⟩
abbrev S1x1 : Shape := ⟨2, ![1, 1]⟩
abbrev S4096x1 : Shape := ⟨2, ![4096, 1]⟩
abbrev S25x512x128 : Shape := ⟨3, ![25, 512, 128]⟩
abbrev S25x128x32 : Shape := ⟨3, ![25, 128, 32]⟩
abbrev S512x1 : Shape := ⟨2, ![512, 1]⟩
abbrev S512x32 : Shape := ⟨2, ![512, 32]⟩
abbrev S1x512x128 : Shape := ⟨3, ![1, 512, 128]⟩
abbrev S512x128 : Shape := ⟨2, ![512, 128]⟩
abbrev S1x128x32 : Shape := ⟨3, ![1, 128, 32]⟩
abbrev S128x32 : Shape := ⟨2, ![128, 32]⟩
abbrev S512 : Shape := ⟨1, ![512]⟩

abbrev nBuf : Table → Nat
  | .hbm => 15
  | .local .tc .vmem => 10
  | .local .scVector .vmem => 3
  | _ => 0

abbrev bufTy : (tb : Table) → Fin (nBuf tb) → BufTy
  | .hbm, ⟨0, _⟩ => ⟨S4096x200, .i32⟩
  | .hbm, ⟨1, _⟩ => ⟨S100000x128, .f32⟩
  | .hbm, ⟨2, _⟩ => ⟨S25600x32, .f32⟩
  | .hbm, ⟨3, _⟩ => ⟨S32, .f32⟩
  | .hbm, ⟨4, _⟩ => ⟨S32x1, .f32⟩
  | .hbm, ⟨5, _⟩ => ⟨S1, .f32⟩
  | .hbm, ⟨6, _⟩ => ⟨S200x4096, .i32⟩
  | .hbm, ⟨7, _⟩ => ⟨S819200, .i32⟩
  | .hbm, ⟨8, _⟩ => ⟨S819200x128, .f32⟩
  | .hbm, ⟨9, _⟩ => ⟨S200x4096x128, .f32⟩
  | .hbm, ⟨10, _⟩ => ⟨S200x128x32, .f32⟩
  | .hbm, ⟨11, _⟩ => ⟨S1x32, .f32⟩
  | .hbm, ⟨12, _⟩ => ⟨S1x32, .f32⟩
  | .hbm, ⟨13, _⟩ => ⟨S1x1, .f32⟩
  | .hbm, ⟨14, _⟩ => ⟨S4096x1, .f32⟩
  | .local .tc .vmem, ⟨0, _⟩ => ⟨S25x512x128, .f32⟩
  | .local .tc .vmem, ⟨1, _⟩ => ⟨S25x512x128, .f32⟩
  | .local .tc .vmem, ⟨2, _⟩ => ⟨S25x128x32, .f32⟩
  | .local .tc .vmem, ⟨3, _⟩ => ⟨S25x128x32, .f32⟩
  | .local .tc .vmem, ⟨4, _⟩ => ⟨S1x32, .f32⟩
  | .local .tc .vmem, ⟨5, _⟩ => ⟨S1x32, .f32⟩
  | .local .tc .vmem, ⟨6, _⟩ => ⟨S1x1, .f32⟩
  | .local .tc .vmem, ⟨7, _⟩ => ⟨S512x1, .f32⟩
  | .local .tc .vmem, ⟨8, _⟩ => ⟨S512x1, .f32⟩
  | .local .tc .vmem, ⟨9, _⟩ => ⟨S512x32, .f32⟩
  | .local .scVector .vmem, ⟨0, _⟩ => ⟨S25600, .i32⟩
  | .local .scVector .vmem, ⟨1, _⟩ => ⟨S128x128, .f32⟩
  | .local .scVector .vmem, ⟨2, _⟩ => ⟨S128x128, .f32⟩
  | _, _ => ⟨S4096x200, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 14 → Bool
  | ⟨0, _⟩ => false
  | ⟨1, _⟩ => false
  | ⟨2, _⟩ => false
  | ⟨3, _⟩ => false
  | ⟨4, _⟩ => false
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTables nBuf rfl bufTy 4 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v1_scv : Ref sig .scVector := ⟨.hbm, 7, rfl⟩
abbrev main_arg1_scv : Ref sig .scVector := ⟨.hbm, 1, rfl⟩
abbrev main_v2_scv : Ref sig .scVector := ⟨.hbm, 8, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg3_0 : Ref sig .tc := ⟨.vmem, 5, rfl⟩
abbrev cc1_stg4_0 : Ref sig .tc := ⟨.vmem, 6, rfl⟩
abbrev cc1_stg5_0 : Ref sig .tc := ⟨.vmem, 7, rfl⟩
abbrev cc1_stg5_1 : Ref sig .tc := ⟨.vmem, 8, rfl⟩
abbrev cc1_scratch0 : Ref sig .tc := ⟨.vmem, 9, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem5_1 : DmaSem sig := 13
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  ![v2.toNat]
@[reducible] def k0_t1_loop : Scf.Loop 32 :=
  let c0_i32_5 : BitVec 32 := 0#32
  let c100_i32 : BitVec 32 := 100#32
  let v7 : BitVec 32 := Scalar.addi c0_i32_5 c100_i32
  let c1_i32 : BitVec 32 := 1#32
  ⟨c0_i32_5, v7, c1_i32⟩
def k0_off2 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c2_i32_11 : BitVec 32 := 2#32
  let c0_i32_5 : BitVec 32 := 0#32
  let c1_i32 : BitVec 32 := 1#32
  let arg12 : BitVec 32 := Scf.iv c0_i32_5 c1_i32 k0_t1
  let v12 : BitVec 32 := Scalar.muli c2_i32_11 arg12
  let c128_i32_15 : BitVec 32 := 128#32
  let v15 : BitVec 32 := Scalar.muli v12 c128_i32_15
  let v16 : BitVec 32 := Scalar.addi v2 v15
  let c0_i32_16 : BitVec 32 := 0#32
  ![v16.toNat, 0]
def k0_off3 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c2_i32_11 : BitVec 32 := 2#32
  let c0_i32_5 : BitVec 32 := 0#32
  let c1_i32 : BitVec 32 := 1#32
  let arg12 : BitVec 32 := Scf.iv c0_i32_5 c1_i32 k0_t1
  let v12 : BitVec 32 := Scalar.muli c2_i32_11 arg12
  let c1_i32_21 : BitVec 32 := 1#32
  let v21 : BitVec 32 := Scalar.addi v12 c1_i32_21
  let c128_i32_22 : BitVec 32 := 128#32
  let v22 : BitVec 32 := Scalar.muli v21 c128_i32_22
  let v23 : BitVec 32 := Scalar.addi v2 v22
  let c0_i32_23 : BitVec 32 := 0#32
  ![v23.toNat, 0]
def k0_cond1 (k0_t1 : Fin k0_t1_loop.trips) : BitVec 1 :=
  let c0_i32_5 : BitVec 32 := 0#32
  let c1_i32 : BitVec 32 := 1#32
  let arg12 : BitVec 32 := Scf.iv c0_i32_5 c1_i32 k0_t1
  let c1_i32_25 : BitVec 32 := 1#32
  let v26 : BitVec 32 := Scalar.addi arg12 c1_i32_25
  let c100_i32_26 : BitVec 32 := 100#32
  let v27 : BitVec 1 := Scalar.cmpi .slt v26 c100_i32_26
  let v28 : BitVec 32 := Scalar.extui v27
  let c0_i32_27 : BitVec 32 := 0#32
  let v29 : BitVec 1 := Scalar.cmpi .ne v28 c0_i32_27
  v29

def k0_off4 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c0_i32_28 : BitVec 32 := 0#32
  ![v2.toNat, 0]
def k0_off5 (k0_t1 : Fin k0_t1_loop.trips) (c2_i32_30 : BitVec 32) : Fin 1 → Nat :=
  let c2_i32_11 : BitVec 32 := 2#32
  let c0_i32_5 : BitVec 32 := 0#32
  let c1_i32 : BitVec 32 := 1#32
  let arg12 : BitVec 32 := Scf.iv c0_i32_5 c1_i32 k0_t1
  let v12 : BitVec 32 := Scalar.muli c2_i32_11 arg12
  let v32 : BitVec 32 := Scalar.addi v12 c2_i32_30
  let c128_i32_31 : BitVec 32 := 128#32
  let v33 : BitVec 32 := Scalar.muli v32 c128_i32_31
  ![v33.toNat]
def k0_off6 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c0_i32_7 : BitVec 32 := 0#32
  ![v2.toNat, 0]
abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v157 : BitVec 1 := Scalar.cmpi .eq arg1 c7_i32
  let v158 : BitVec 32 := Scalar.extui v157
  let c0_i32_154 : BitVec 32 := 0#32
  let v159 : BitVec 1 := Scalar.cmpi .ne v158 c0_i32_154
  v159

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S25x512x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S25x128x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S1x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S512x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4096x200 : Shape := ⟨2, ![4096, 200]⟩
abbrev S100000x128 : Shape := ⟨2, ![100000, 128]⟩
abbrev S25600x32 : Shape := ⟨2, ![25600, 32]⟩
abbrev S32 : Shape := ⟨1, ![32]⟩
abbrev S32x1 : Shape := ⟨2, ![32, 1]⟩
abbrev S1 : Shape := ⟨1, ![1]⟩
abbrev S_ : Shape := ⟨0, ![]⟩
abbrev S4096x200x1 : Shape := ⟨3, ![4096, 200, 1]⟩
abbrev S1x1x1 : Shape := ⟨3, ![1, 1, 1]⟩
abbrev S4096x200x128 : Shape := ⟨3, ![4096, 200, 128]⟩
abbrev S4096x25600 : Shape := ⟨2, ![4096, 25600]⟩
abbrev S4096x32 : Shape := ⟨2, ![4096, 32]⟩
abbrev S1x32 : Shape := ⟨2, ![1, 32]⟩
abbrev S4096x1 : Shape := ⟨2, ![4096, 1]⟩
abbrev S1x1 : Shape := ⟨2, ![1, 1]⟩

abbrev nBuf : Space → Nat
  | .hbm => 49
  | .vmem => 0
  | .smem => 0
  | _ => 0

abbrev bufTy : (tb : Table) → Fin (tcTables nBuf tb) → BufTy
  | .hbm, ⟨0, _⟩ => ⟨S4096x200, .i32⟩
  | .hbm, ⟨1, _⟩ => ⟨S100000x128, .f32⟩
  | .hbm, ⟨2, _⟩ => ⟨S25600x32, .f32⟩
  | .hbm, ⟨3, _⟩ => ⟨S32, .f32⟩
  | .hbm, ⟨4, _⟩ => ⟨S32x1, .f32⟩
  | .hbm, ⟨5, _⟩ => ⟨S1, .f32⟩
  | .hbm, ⟨6, _⟩ => ⟨S_, .i32⟩
  | .hbm, ⟨7, _⟩ => ⟨S4096x200, .i32⟩
  | .hbm, ⟨8, _⟩ => ⟨S4096x200, .i1⟩
  | .hbm, ⟨9, _⟩ => ⟨S_, .i32⟩
  | .hbm, ⟨10, _⟩ => ⟨S4096x200, .i32⟩
  | .hbm, ⟨11, _⟩ => ⟨S4096x200, .i32⟩
  | .hbm, ⟨12, _⟩ => ⟨S4096x200, .i32⟩
  | .hbm, ⟨13, _⟩ => ⟨S4096x200x1, .i32⟩
  | .hbm, ⟨14, _⟩ => ⟨S1, .i32⟩
  | .hbm, ⟨15, _⟩ => ⟨S_, .i32⟩
  | .hbm, ⟨16, _⟩ => ⟨S4096x200x1, .i32⟩
  | .hbm, ⟨17, _⟩ => ⟨S4096x200x1, .i1⟩
  | .hbm, ⟨18, _⟩ => ⟨S1x1x1, .i32⟩
  | .hbm, ⟨19, _⟩ => ⟨S4096x200x1, .i32⟩
  | .hbm, ⟨20, _⟩ => ⟨S4096x200x1, .i1⟩
  | .hbm, ⟨21, _⟩ => ⟨S4096x200x1, .i1⟩
  | .hbm, ⟨22, _⟩ => ⟨S_, .i1⟩
  | .hbm, ⟨23, _⟩ => ⟨S4096x200, .i1⟩
  | .hbm, ⟨24, _⟩ => ⟨S4096x200x128, .f32⟩
  | .hbm, ⟨25, _⟩ => ⟨S4096x200x128, .i1⟩
  | .hbm, ⟨26, _⟩ => ⟨S_, .f32⟩
  | .hbm, ⟨27, _⟩ => ⟨S4096x200x128, .f32⟩
  | .hbm, ⟨28, _⟩ => ⟨S4096x200x128, .f32⟩
  | .hbm, ⟨29, _⟩ => ⟨S4096x25600, .f32⟩
  | .hbm, ⟨30, _⟩ => ⟨S4096x32, .f32⟩
  | .hbm, ⟨31, _⟩ => ⟨S1x32, .f32⟩
  | .hbm, ⟨32, _⟩ => ⟨S4096x32, .f32⟩
  | .hbm, ⟨33, _⟩ => ⟨S4096x32, .f32⟩
  | .hbm, ⟨34, _⟩ => ⟨S_, .f32⟩
  | .hbm, ⟨35, _⟩ => ⟨S4096x32, .f32⟩
  | .hbm, ⟨36, _⟩ => ⟨S4096x32, .f32⟩
  | .hbm, ⟨37, _⟩ => ⟨S4096x1, .f32⟩
  | .hbm, ⟨38, _⟩ => ⟨S1x1, .f32⟩
  | .hbm, ⟨39, _⟩ => ⟨S4096x1, .f32⟩
  | .hbm, ⟨40, _⟩ => ⟨S4096x1, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096x1, .f32⟩
  | .hbm, ⟨48, _⟩ => ⟨S4096x1, .f32⟩
  | _, _ => ⟨S4096x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_call1_cst : Ref sig .tc := ⟨.hbm, 34, rfl⟩
abbrev main_call1_v0 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_cst : Ref sig .tc := ⟨.hbm, 43, rfl⟩
abbrev main_v13 : Ref sig .tc := ⟨.hbm, 44, rfl⟩
abbrev main_v14 : Ref sig .tc := ⟨.hbm, 45, rfl⟩
abbrev main_cst_0 : Ref sig .tc := ⟨.hbm, 46, rfl⟩
abbrev main_v15 : Ref sig .tc := ⟨.hbm, 47, rfl⟩
abbrev main_v16 : Ref sig .tc := ⟨.hbm, 48, rfl⟩

abbrev nD : Nat := 1
abbrev τ : Topo := Topo.v7x

variable {F : FTy → Type} [FloatOps F]
-- ==== Proof.Rows.lean ====
/-
  The rows the SparseCore call moves: which words of the index list, of the table and of the gathered array each
  subcore reads and writes, and what the gathered array holds at the end (row `n` of it is the table's row number
  `x n`). No program here, only index arithmetic over the arrays' shapes.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.ShareLeaves
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

set_option maxRecDepth 16384

noncomputable section

namespace Cert.Proof.Rows

open Cert.KernelIdeal Cert.KernelIdeal.Gen
open Idealize.ShloMosaic

variable {F : FTy → Type}

/-- The element `n` of the flat index list (wrapped round, so that it is defined at every number). -/
def line (n : ℕ) : S819200.Idx := fun a => match a with
  | 0 => ⟨n % 819200, Nat.mod_lt _ (by decide)⟩

/-- The table's element in row `r`, lane `k` (both wrapped round). -/
def cell (r k : ℕ) : S100000x128.Idx := fun a => match a with
  | 0 => ⟨r % 100000, Nat.mod_lt _ (by decide)⟩
  | 1 => ⟨k % 128, Nat.mod_lt _ (by decide)⟩

theorem line_val (n : ℕ) : (line n 0).val = n % 819200 := rfl
theorem cell_row (r k : ℕ) : (cell r k 0).val = r % 100000 := rfl
theorem cell_lane (r k : ℕ) : (cell r k 1).val = k % 128 := rfl

/-- An element of the list is the one its coordinate numbers. -/
theorem eq_line {j : S819200.Idx} {n : ℕ} (h : (j 0).val = n) : j = line n := by
  funext a
  match a with
  | 0 =>
    refine Fin.ext ?_
    rw [line_val, h, Nat.mod_eq_of_lt]
    have := (j 0).isLt
    rw [h] at this
    exact this

/-- An element of the table is the one its row and lane number. -/
theorem eq_cell {j : S100000x128.Idx} {r k : ℕ} (h0 : (j 0).val = r) (h1 : (j 1).val = k) : j = cell r k := by
  funext a
  match a with
  | 0 =>
    refine Fin.ext ?_
    rw [cell_row, h0, Nat.mod_eq_of_lt]
    have := (j 0).isLt
    rw [h0] at this
    exact this
  | 1 =>
    refine Fin.ext ?_
    rw [cell_lane, h1, Nat.mod_eq_of_lt]
    have := (j 1).isLt
    rw [h1] at this
    exact this

attribute [irreducible] line cell

/-- What a gathered element is: at row `n`, lane `k`, the table at row `x n`, lane `k`. -/
def gat (x : S819200.Idx → Elt F .i32) (t : S100000x128.Idx → Elt F .f32) (n k : ℕ) : Elt F .f32 :=
  t (cell (x (line n)).toNat k)

/-- The whole gathered array. -/
def gathered (x : S819200.Idx → Elt F .i32) (t : S100000x128.Idx → Elt F .f32) : S819200x128.Idx → Elt F .f32 :=
  fun j => gat x t (j 0).val (j 1).val

/-- Its 128 rows from row `r` on, as a row buffer holds them. -/
def chunk (x : S819200.Idx → Elt F .i32) (t : S100000x128.Idx → Elt F .f32) (r : ℕ) : S128x128.Idx → Elt F .f32 :=
  fun j => gat x t (r + (j 0).val) (j 1).val

/-- The 25600 words of the list from word `b` on, as a subcore's list buffer holds them. -/
def listAt (x : S819200.Idx → Elt F .i32) (b : ℕ) : S25600.Idx → Elt F .i32 :=
  fun j => x (line (b + (j 0).val))

/-- The gathered array's elements in rows `lo ≤ · < hi`. -/
def band (lo hi : ℕ) : Finset S819200x128.Idx := Finset.univ.filter fun j => lo ≤ (j 0).val ∧ (j 0).val < hi

theorem mem_band {lo hi : ℕ} {j : S819200x128.Idx} : j ∈ band lo hi ↔ lo ≤ (j 0).val ∧ (j 0).val < hi := by
  simp [band]

theorem band_union {lo mid hi : ℕ} (h₁ : lo ≤ mid) (h₂ : mid ≤ hi) : band lo hi = band lo mid ∪ band mid hi := by
  ext j; simp only [Finset.mem_union, mem_band]; omega

theorem band_disjoint {a b c d : ℕ} (h : b ≤ c) : Disjoint (band a b) (band c d) :=
  Finset.disjoint_left.mpr fun j h₁ h₂ => by rw [mem_band] at h₁ h₂; omega

theorem band_empty {a : ℕ} : band a a = ∅ := by
  ext j; simp only [mem_band, Finset.notMem_empty, iff_false]; omega

/-- A coordinate of a unit rectangle's element: its offset and the coordinate inside. -/
theorem unit_val {s : Shape} (off size : Fin s.rank → ℕ) (inb : ∀ a, off a + size a ≤ s.size a) (j : (Rect.unit (s := s) off size inb).shape.Idx)
    (a : Fin s.rank) : ((Rect.unit (s := s) off size inb).emb j a).val = off a + (j a).val :=
  (Rect.emb_apply _ j a).trans (congrArg (off a + ·) (Nat.one_mul _))

/-- A copy's 128 rows of the gathered array are a band. -/
theorem slice_band {off : Fin 2 → ℕ} {r : ℕ} (h : off = ![r, 0]) (inb : ∀ a, off a + S128x128.size a ≤ S819200x128.size a) :
    ((Memref.whole main_v2_scv).slice (Rect.unit (s := S819200x128) off S128x128.size inb) (fun _ => rfl)).view.set
      = band r (r + 128) := by
  subst h
  refine (View.set_slice_whole main_v2_scv _).trans ?_
  ext j
  rw [mem_band]
  refine Rect.mem_set_unit.trans ⟨fun h => h 0, fun h a => ?_⟩
  match a with
  | 0 => exact h
  | 1 => exact ⟨Nat.zero_le _, (j 1).isLt.trans_eq (Nat.zero_add 128).symm⟩

/-- The gathered array read at a copy's rows is the row buffer's `chunk`. -/
theorem gathered_emb {off : Fin 2 → ℕ} {r : ℕ} (h : off = ![r, 0]) (inb : ∀ a, off a + S128x128.size a ≤ S819200x128.size a)
    (x : S819200.Idx → Elt F .i32) (t : S100000x128.Idx → Elt F .f32) (j : S128x128.Idx) :
    gathered x t ((Rect.unit (s := S819200x128) off S128x128.size inb).emb j) = chunk x t r j := by
  subst h
  unfold gathered chunk
  exact congrArg₂ (gat x t) (unit_val _ _ _ _ 0) ((unit_val _ _ _ _ 1).trans (Nat.zero_add _))

/-- The list fetched by a subcore is the flat list's 25600 words from its base on. -/
theorem listAt_emb {off : Fin 1 → ℕ} {b : ℕ} (h : off = ![b]) (inb : ∀ a, off a + S25600.size a ≤ S819200.size a)
    (x : S819200.Idx → Elt F .i32) (j : S25600.Idx) :
    x ((Rect.unit (s := S819200) off S25600.size inb).emb j) = listAt x b j := by
  subst h
  exact congrArg x (eq_line (unit_val _ _ _ _ 0))

/-- A gather's payload from the whole table by 128 words of a subcore's list is the corresponding `chunk`. -/
theorem gather_chunk {off : Fin 1 → ℕ} {o b : ℕ} (h : off = ![o]) (inb : ∀ a, off a + S128.size a ≤ S25600.size a)
    (inb0 : ∀ a, (![0, 0] : Fin 2 → ℕ) a + S100000x128.size a ≤ S100000x128.size a)
    (x : S819200.Idx → Elt F .i32) (t : S100000x128.Idx → Elt F .f32) (hg : S100000x128.Gathers 0 S128x128) (hn : S128.numel = S128x128.size hg.axis')
    (hin : ∀ j, (listAt x b ((Rect.unit (s := S25600) off S128.size inb).emb j)).toNat < S100000x128.size hg.axis) :
    SparseCore.gatherPayload hg (fun j => t ((Rect.unit (s := S100000x128) ![0, 0] S100000x128.size inb0).emb j))
        (SparseCore.rows (fun j => listAt x b ((Rect.unit (s := S25600) off S128.size inb).emb j)) hn hin)
      = chunk x t (b + o) := by
  subst h
  funext j
  have e1 : ∀ k : Fin S128.numel, ((S128.rowMajor.symm k) 0).val = k.val := fun k => by
    rw [← Shape.rowMajor_val_one, Equiv.apply_symm_apply]
  have h3 : listAt x b ((Rect.unit (s := S25600) ![o] S128.size inb).emb (S128.rowMajor.symm ((j hg.axis').cast hn.symm)))
      = x (line (b + o + (j 0).val)) := by
    unfold listAt
    refine congrArg (fun n => x (line n)) ?_
    refine (congrArg (b + ·) (unit_val _ _ _ _ 0)).trans ?_
    refine (congrArg (fun n => b + (o + n)) (e1 _)).trans ?_
    exact (Nat.add_assoc _ _ _).symm
  unfold SparseCore.gatherPayload chunk gat
  refine congrArg t (eq_cell ?_ ?_)
  · refine (unit_val _ _ _ _ 0).trans ((Nat.zero_add _).trans ?_)
    refine (congrArg Fin.val (Shape.Gathers.idx_axis hg _ j)).trans ?_
    unfold SparseCore.rows
    exact congrArg BitVec.toNat h3
  · refine (unit_val _ _ _ _ 1).trans ((Nat.zero_add _).trans ?_)
    exact Shape.Gathers.idx_of_ne hg _ j 1 Nat.one_ne_zero

end Cert.Proof.Rows
-- ==== Proof.Ops.lean ====
/-
  One step of a subcore's work at a time: starting a gather of 128 table rows into a row buffer, waiting for it, starting
  the copy of a row buffer out to its 128 rows of the gathered array, waiting for that. Each is stated for any offset
  that comes to the row in question, so that a step of the loop and a step before it use the same statement.
-/
module

public import proofs.«01_k».proof.Proof.Rows

@[expose] public section

set_option maxRecDepth 16384

noncomputable section

namespace Cert.Proof.Tile

open Cert.KernelIdeal Cert.KernelIdeal.Gen
open Cert.Proof.Rows

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-- The ghost state: the rounds of the SparseCore call's handshakes, those of the TensorCore pipeline's cells, and the
    counters the copies are tracked by. -/
abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev 𝒱₀ : Variants := Variants.none

abbrev xLoc (d : Dev nD) : Loc nD τ sig := (SparseCore.T d).loc main_v1
abbrev tLoc (d : Dev nD) : Loc nD τ sig := (SparseCore.T d).loc main_arg1
abbrev oLoc (d : Dev nD) : Loc nD τ sig := (SparseCore.T d).loc main_v2

abbrev xV : Memref sig .scVector .hbm S819200 .i32 := Memref.whole main_v1_scv
abbrev tV : Memref sig .scVector .hbm S100000x128 .f32 := Memref.whole main_arg1_scv
abbrev oV : Memref sig .scVector .hbm S819200x128 .f32 := Memref.whole main_v2_scv
abbrev sV : Memref sig .scVector .vmem S25600 .i32 := Memref.whole cc0_scratch0
abbrev aV : Memref sig .scVector .vmem S128x128 .f32 := Memref.whole cc0_scratch1
abbrev bV : Memref sig .scVector .vmem S128x128 .f32 := Memref.whole cc0_scratch2

abbrev tAll : Memref sig .scVector .hbm S100000x128 .f32 :=
  tV.slice (Rect.unit (s := S100000x128) ![0, 0] S100000x128.size inb_S100000x128_S100000x128_0_0) (fun _ => rfl)

/-- 128 words of the list buffer, and 128 rows of the gathered array. -/
abbrev sPart (off : Fin 1 → ℕ) (inb : ∀ a, off a + S128.size a ≤ S25600.size a) : Memref sig .scVector .vmem S128 .i32 :=
  sV.slice (Rect.unit (s := S25600) off S128.size inb) (fun _ => rfl)
abbrev oPart (off : Fin 2 → ℕ) (inb : ∀ a, off a + S128x128.size a ≤ S819200x128.size a) : Memref sig .scVector .hbm S128x128 .f32 :=
  oV.slice (Rect.unit (s := S819200x128) off S128x128.size inb) (fun _ => rfl)

variable [FloatOps F]
variable (d : Dev nD) (c : Fin τ.nSC) (i : Fin τ.nSub)
variable (x : S819200.Idx → Elt F .i32) (t : S100000x128.Idx → Elt F .f32)

/-- The table's slice as a copy names it is all of it. -/
theorem tAll_set : (tAll).view.set = Finset.univ := by
  refine (View.set_slice_whole main_arg1_scv _).trans ?_
  ext j
  refine ⟨fun _ => Finset.mem_univ _, fun _ => Rect.mem_set_unit.mpr fun a => ?_⟩
  match a with
  | 0 => exact ⟨Nat.zero_le _, (j 0).isLt.trans_eq (Nat.zero_add _).symm⟩
  | 1 => exact ⟨Nat.zero_le _, (j 1).isLt.trans_eq (Nat.zero_add _).symm⟩

/-- What the subcore still owes, and the waits it has recorded: those it began with and its own copies'. -/
def Owe (O : CellTallies nD τ sig (HIx 1)) (W : Waits sig (HIx 1)) : sProp 𝕄 :=
  iprop(∃ W', ⌜∀ p ∈ W', p ∈ W ∨ p.2 = none⌝ ∗ owes (V d c i) O W')

/-- A row buffer at some contents, and at given ones. -/
def anyBuf (buf : Memref sig .scVector .vmem S128x128 .f32) : sProp 𝕄 :=
  iprop(∃ f, buf.view.loc (V d c i) ↦[buf.view.set]{fullShare} f)
def fullBuf (buf : Memref sig .scVector .vmem S128x128 .f32) (C : S128x128.Idx → Elt F .f32) : sProp 𝕄 :=
  iprop(∃ f, ⌜buf.view.read (Elt F) f = C⌝ ∗ (buf.view.loc (V d c i) ↦[buf.view.set]{fullShare} f))

/-- The bytes one gather, or one copy out, moves. -/
abbrev rowCredit (buf : Memref sig .scVector .vmem S128x128 .f32) : ℕ := buf.view.dmaCredit

/-- The subcore's list buffer, holding its words of the list. -/
abbrev listPts (b : ℕ) (q : PosShare TreeShare) (I : Finset S25600.Idx) : sProp 𝕄 :=
  (sV).view.loc (V d c i) ↦[I]{q} (listAt x b)
abbrev tabPts (q : PosShare TreeShare) : sProp 𝕄 := tLoc d ↦{q} t
abbrev outPts (I : Finset S819200x128.Idx) (f : S819200x128.Idx → Elt F .f32) : sProp 𝕄 := oLoc d ↦[I]{fullShare} f

/-- A gather under way into `buf`: at its end the buffer holds the table's rows named by the list's words from `b + o`
    on, and the shares of the table and of the list come back. -/
def Gathering (sem : DmaSem sig) (buf : Memref sig .scVector .vmem S128x128 .f32) (N b o : ℕ) (q qo : PosShare TreeShare) : sProp 𝕄 :=
  iprop(∃ I, Transfers.Flight countersEmb (V d c i) (.dma sem) default N
        iprop(fullBuf d c i buf (chunk x t (b + o)) ∗ tabPts d t q ∗ listPts d c i x b qo I)
      ∗ listPts d c i x b qo (Finset.univ \ I))

/-- A copy out under way: at its end the gathered array holds its rows from `r` on, and the buffer is free. -/
def Storing (sem : DmaSem sig) (buf : Memref sig .scVector .vmem S128x128 .f32) (N r : ℕ) : sProp 𝕄 :=
  Transfers.Flight countersEmb (V d c i) (.dma sem) default N
    iprop(outPts d (band r (r + 128)) (gathered x t) ∗ anyBuf d c i buf)

theorem list_lt (hx : ∀ j, (x j).toNat < 100000) (b : ℕ) (off : Fin 1 → ℕ) (inb : ∀ a, off a + S128.size a ≤ S25600.size a) :
    ∀ j, ((sPart off inb).view.read (Elt F) (listAt x b) j).toNat < S100000x128.size gathers_S100000x128_S128x128.axis :=
  fun _ => hx _

/-- Start a gather. -/
theorem wp_gather {α : Type} {Q : α → sProp 𝕄} {off : Fin 1 → ℕ} {o b : ℕ} (h : off = ![o]) (inb : ∀ a, off a + S128.size a ≤ S25600.size a)
    (hx : ∀ j, (x j).toNat < 100000) (sem : DmaSem sig) (buf : Memref sig .scVector .vmem S128x128 .f32) (N : ℕ)
    (hN : ∑ j, (buf.slice (S128x128.rowRect gathers_S100000x128_S128x128.axis' j) (S128x128.stride_rowRect gathers_S100000x128_S128x128.axis' j)).view.dmaCredit = N)
    (q qo : PosShare TreeShare) (k : PUnit → Prog (TpuEff nD τ sig (Elt F) Λ₀ (.scVector c i)) α)
    (hsrc : (tAll).view.WordExact) :
    iprop(anyBuf d c i buf ∗ tabPts d t q ∗ listPts d c i x b qo Finset.univ ∗ semVal (V d c i, .dma sem) 0)
      ⊢ iprop((Gathering d c i x t sem buf N b o q qo -∗ wp frame (wpE (defs₀ (F := F)) 𝒱₀ (V d c i) none) Set.univ (k ⟨⟩) Q)
        -∗ wp frame (wpE (defs₀ (F := F)) 𝒱₀ (V d c i) none) Set.univ
            (SparseCore.enqueueIndirectGather rfl tAll buf gathers_S100000x128_S128x128 (sPart off inb) rfl sem hsrc rfl (Or.inl rfl)
              (by decide) >>= k) Q) := by
  unfold anyBuf
  iintro ⟨⟨%f, Hb⟩, Ht, Hs, Hv⟩ Hk
  ihave Hs' := (pointsTo_split_subset (Finset.subset_univ (sPart off inb).view.set)).1 $$ Hs
  icases Hs' with ⟨Hs, Hrest⟩
  ihave Ht' := (Entails.of_eq (show (tabPts d t q : sProp 𝕄) = ((tAll).view.loc (V d c i) ↦[(tAll).view.set]{q} t) by
    rw [tAll_set])) $$ Ht
  iapply (SparseCore.wp_indirectGatherLocal countersEmb 𝒱₀ (V d c i) none (hg := gathers_S100000x128_S128x128) (default : HIx 1)
      N hN (by decide) (list_lt x hx b off inb)) $$ [Hb Ht' Hs Hv]
  · isplitl [Ht']; · iexact Ht'
    isplitl [Hb]; · iexact Hb
    isplitl [Hs]; · iexact Hs
    iexact Hv
  iintro Hfl
  iapply Hk
  unfold Gathering
  iexists (sPart off inb).view.set
  isplitl [Hfl]
  · iapply (Transfers.Flight_mono countersEmb (V d c i) ?_) $$ Hfl
    unfold fullBuf
    iintro ⟨Hb, Ht, Hs⟩
    isplitl [Hb]
    · iexists _
      isplitr
      swap; · iexact Hb
      ipureintro
      exact (View.read_write_univ _ _).trans (gather_chunk h inb _ x t _ _ _)
    isplitl [Ht]
    · iapply (Entails.of_eq (show ((tAll).view.loc (V d c i) ↦[(tAll).view.set]{q} t) = (tabPts d t q : sProp 𝕄) by
        rw [tAll_set])) $$ Ht
    iexact Hs
  iexact Hrest

/-- A recorded wait of the subcore's own keeps the record in form. -/
theorem owe_insert {O : CellTallies nD τ sig (HIx 1)} {W W' : Waits sig (HIx 1)} (h : ∀ p ∈ W', p ∈ W ∨ p.2 = none) (s : SemLoc sig) :
    (owes (V d c i) O (insert (s, (default : HIx 1)) W') : sProp 𝕄) ⊢ Owe d c i O W := by
  unfold Owe
  iintro H
  iexists _
  isplitr
  swap; · iexact H
  ipureintro
  intro p hp
  rcases Finset.mem_insert.mp hp with rfl | hp
  · exact .inr rfl
  · exact h p hp

theorem owe_open (O : CellTallies nD τ sig (HIx 1)) (W : Waits sig (HIx 1)) :
    (Owe d c i O W : sProp 𝕄) ⊢ iprop(∃ W', ⌜∀ p ∈ W', p ∈ W ∨ p.2 = none⌝ ∗ owes (V d c i) O W') := by
  unfold Owe; exact .rfl

/-- Wait for any copy of the subcore's own that is under way. -/
theorem wp_await {α : Type} {Q : α → sProp 𝕄} {D : sProp 𝕄} {O : CellTallies nD τ sig (HIx 1)} {W : Waits sig (HIx 1)}
    {sp sp' : Space} {s s' : Shape} {e e' : EltTy} (sem : DmaSem sig) (srcw : Memref sig .scVector sp' s' e') (dstw : Memref sig .scVector sp s e)
    (hsrc : srcw.view.WordExact) (hdst : dstw.view.WordExact) (N : ℕ) (hN : dstw.view.dmaCredit = N)
    (k : PUnit → Prog (TpuEff nD τ sig (Elt F) Λ₀ (.scVector c i)) α) :
    iprop(Transfers.MayWaits (V d c i) (default : HIx 1) O ∗ Transfers.Flight countersEmb (V d c i) (.dma sem) default N D ∗ Owe d c i O W)
      ⊢ iprop((iprop(D ∗ semVal (V d c i, .dma sem) 0 ∗ Owe d c i O W) -∗ wp frame (wpE (defs₀ (F := F)) 𝒱₀ (V d c i) none) Set.univ (k ⟨⟩) Q)
        -∗ wp frame (wpE (defs₀ (F := F)) 𝒱₀ (V d c i) none) Set.univ (.op (.waitDma2 sem srcw dstw hsrc hdst) k) Q) := by
  iintro ⟨Hmw, Hfl, HO⟩ Hk
  ihave HO' := (owe_open d c i O W) $$ HO
  icases HO' with ⟨%W', %hW', HO⟩
  iapply (Transfers.wp_waitLocalO countersEmb 𝒱₀ (V d c i) none (default : HIx 1) hN) $$ [Hfl HO Hmw]
  · isplitl [Hfl]; · iexact Hfl
    isplitl [HO]; · iexact HO
    iapply (Transfers.MayWaits.elim (SemLoc.dma sem)) $$ Hmw
  iintro ⟨HD, Hv, HO⟩
  iapply Hk
  isplitl [HD]; · iexact HD
  isplitl [Hv]; · iexact Hv
  iapply (owe_insert d c i hW' _)
  iexact HO

/-- Wait for a gather: the buffer holds its rows, and the shares of the table and of the list are back. -/
theorem wp_gathered {α : Type} {Q : α → sProp 𝕄} {O : CellTallies nD τ sig (HIx 1)} {W : Waits sig (HIx 1)}
    {b o : ℕ} {q qo : PosShare TreeShare} (sem : DmaSem sig) (buf : Memref sig .scVector .vmem S128x128 .f32)
    (hsrc : (tAll).view.WordExact) (hdst : buf.view.WordExact)
    (k : PUnit → Prog (TpuEff nD τ sig (Elt F) Λ₀ (.scVector c i)) α) :
    iprop(Transfers.MayWaits (V d c i) (default : HIx 1) O ∗ Gathering d c i x t sem buf (rowCredit buf) b o q qo ∗ Owe d c i O W)
      ⊢ iprop((iprop(fullBuf d c i buf (chunk x t (b + o)) ∗ tabPts d t q ∗ listPts d c i x b qo Finset.univ
              ∗ semVal (V d c i, .dma sem) 0 ∗ Owe d c i O W) -∗ wp frame (wpE (defs₀ (F := F)) 𝒱₀ (V d c i) none) Set.univ (k ⟨⟩) Q)
        -∗ wp frame (wpE (defs₀ (F := F)) 𝒱₀ (V d c i) none) Set.univ (SparseCore.waitIndirectGather sem tAll buf hsrc hdst >>= k) Q) := by
  unfold Gathering
  iintro ⟨Hmw, ⟨%I, Hfl, Hrest⟩, HO⟩ Hk
  iapply (wp_await d c i (O := O) (W := W) sem tAll buf hsrc hdst (rowCredit buf) rfl k) $$ [Hmw Hfl HO]
  · isplitl [Hmw]; · iexact Hmw
    isplitl [Hfl]; · iexact Hfl
    iexact HO
  iintro ⟨⟨Hb, Ht, Hs⟩, Hv, HO⟩
  iapply Hk
  isplitl [Hb]; · iexact Hb
  isplitl [Ht]; · iexact Ht
  isplitl [Hs Hrest]
  · iapply (pointsTo_split_subset (Finset.subset_univ I)).2
    isplitl [Hs] <;> iassumption
  isplitl [Hv] <;> iassumption

/-- Start the copy of a row buffer out to its 128 rows. -/
theorem wp_store {α : Type} {Q : α → sProp 𝕄} {off : Fin 2 → ℕ} {r : ℕ} (h : off = ![r, 0]) (inb : ∀ a, off a + S128x128.size a ≤ S819200x128.size a)
    (sem : DmaSem sig) (buf : Memref sig .scVector .vmem S128x128 .f32) (f : S819200x128.Idx → Elt F .f32)
    (N : ℕ) (hN : (oPart off inb).view.dmaCredit = N)
    (hsrc : buf.view.WordExact) (hdst : (oPart off inb).view.WordExact)
    (hsem : DmaTarget.Typed (nD := nD) (p := .scVector c i) .vmem (.dma sem) (.here (oPart off inb)))
    (k : PUnit → Prog (TpuEff nD τ sig (Elt F) Λ₀ (.scVector c i)) α) :
    iprop(fullBuf d c i buf (chunk x t r) ∗ outPts d (band r (r + 128)) f ∗ semVal (V d c i, .dma sem) 0)
      ⊢ iprop((Storing d c i x t sem buf N r -∗ wp frame (wpE (defs₀ (F := F)) 𝒱₀ (V d c i) none) Set.univ (k ⟨⟩) Q)
        -∗ wp frame (wpE (defs₀ (F := F)) 𝒱₀ (V d c i) none) Set.univ
            (Prog.lift (.enqueueDma buf (.here (oPart off inb)) (.dma sem) hsrc hdst hsem) >>= k) Q) := by
  unfold fullBuf
  iintro ⟨⟨%fb, %hfb, Hb⟩, Ho, Hv⟩ Hk
  ihave Ho' := (Entails.of_eq (show (outPts d (band r (r + 128)) f : sProp 𝕄)
      = ((oPart off inb).view.loc (V d c i) ↦[(oPart off inb).view.set]{fullShare} f) by rw [slice_band h inb])) $$ Ho
  iapply (Transfers.wp_dmaLocal countersEmb 𝒱₀ (V d c i) none (default : HIx 1) N (show (oPart off inb).view.amount (.dma sem) = N from hN)
    (hN ▸ View.dmaCredit_pos _ (by decide)) (Finset.Subset.refl _) (src := buf) (dst := oPart off inb) (k := k)) $$ [Hb Ho' Hv]
  · isplitl [Hb]; · iexact Hb
    isplitl [Ho'] <;> iassumption
  iintro Hfl
  iapply Hk
  unfold Storing
  iapply (Transfers.Flight_mono countersEmb (V d c i) ?_) $$ Hfl
  unfold anyBuf
  iintro ⟨Ho, Hb⟩
  isplitl [Ho]
  · iapply (Entails.of_eq (show ((oPart off inb).view.loc (V d c i) ↦[(oPart off inb).view.set]{fullShare} _ : sProp 𝕄)
      = outPts d (band r (r + 128)) (gathered x t) from ?_)) $$ Ho
    rw [← slice_band h inb]
    refine pointsTo_congr fun j hj => ?_
    obtain ⟨y, -, rfl⟩ := Finset.mem_map.mp hj
    exact (View.write_emb_of_mem _ _ (Finset.mem_univ y)).trans ((congrFun hfb y).trans (gathered_emb h inb x t y).symm)
  · iexists _; iexact Hb

/-- Wait for a copy out: its rows are written and the buffer is free. (The wait names some 128 rows of the array; only
    their number of bytes counts.) -/
theorem wp_stored {α : Type} {Q : α → sProp 𝕄} {O : CellTallies nD τ sig (HIx 1)} {W : Waits sig (HIx 1)} {r : ℕ}
    (sem : DmaSem sig) (buf : Memref sig .scVector .vmem S128x128 .f32) {off : Fin 2 → ℕ} (inb : ∀ a, off a + S128x128.size a ≤ S819200x128.size a)
    (N : ℕ) (hN : (oPart off inb).view.dmaCredit = N) (hsrc : buf.view.WordExact) (hdst : (oPart off inb).view.WordExact)
    (k : PUnit → Prog (TpuEff nD τ sig (Elt F) Λ₀ (.scVector c i)) α) :
    iprop(Transfers.MayWaits (V d c i) (default : HIx 1) O ∗ Storing d c i x t sem buf N r ∗ Owe d c i O W)
      ⊢ iprop((iprop(outPts d (band r (r + 128)) (gathered x t) ∗ anyBuf d c i buf ∗ semVal (V d c i, .dma sem) 0 ∗ Owe d c i O W)
            -∗ wp frame (wpE (defs₀ (F := F)) 𝒱₀ (V d c i) none) Set.univ (k ⟨⟩) Q)
        -∗ wp frame (wpE (defs₀ (F := F)) 𝒱₀ (V d c i) none) Set.univ
            (Prog.lift (.waitDma2 sem buf (oPart off inb) hsrc hdst) >>= k) Q) := by
  unfold Storing
  iintro ⟨Hmw, Hfl, HO⟩ Hk
  iapply (wp_await d c i (O := O) (W := W) sem buf (oPart off inb) hsrc hdst N hN k) $$ [Hmw Hfl HO]
  · isplitl [Hmw]; · iexact Hmw
    isplitl [Hfl]; · iexact Hfl
    iexact HO
  iintro ⟨⟨Ho, Hb⟩, Hv, HO⟩
  iapply Hk
  isplitl [Ho]; · iexact Ho
  isplitl [Hb]; · iexact Hb
  isplitl [Hv] <;> iassumption

end Cert.Proof.Tile
-- ==== Proof.Body.lean ====
/-
  One point of the multilayer perceptron's grid: 25 positions of 512 batch rows. The body adds, to the hidden sums in
  its scratch, the products of the positions' embedding rows with the weights of those positions; at the first block of
  positions the sums start at zero, and at the last the two remaining layers make the output's block of them.
-/
module

public import proofs.«01_k».proof.Proof.Ops
public import proofs.«01_k».proof.Proof.Gen.KernelIdeal.Skeleton
public import proofs.«01_k».proof.Proof.Gen.KernelIdeal.Points
public import proofs.«01_k».proof.Proof.Gen.KernelIdeal.Launch
public import Idealize.ShloMosaic.Lib.Pipeline.FrameBody

@[expose] public section

set_option maxRecDepth 16384

noncomputable section

namespace Cert.Proof.Mlp

open Cert.KernelIdeal Cert.KernelIdeal.Gen
open Cert.Proof.Tile (UU)

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ### The values -/

theorem inb_rows (n : ℕ) (h : n < 25) : ∀ a, (![n, 0, 0] : Fin 3 → ℕ) a + S1x512x128.size a ≤ S25x512x128.size a := by
  intro a; fin_cases a <;> simp [S1x512x128, S25x512x128, Shape.size] <;> omega

theorem inb_weights (n : ℕ) (h : n < 25) : ∀ a, (![n, 0, 0] : Fin 3 → ℕ) a + S1x128x32.size a ≤ S25x128x32.size a := by
  intro a; fin_cases a <;> simp [S1x128x32, S25x128x32, Shape.size] <;> omega

/-- The 512 embedding rows of position `n` of the block, and that position's weights. -/
def rowsAt (x0 : Vec F S25x512x128 .f32) (n : ℕ) (inb : ∀ a, (![n, 0, 0] : Fin 3 → ℕ) a + S1x512x128.size a ≤ S25x512x128.size a) :
    Vec F S1x512x128 .f32 := fun y => x0 ((Rect.unit (s := S25x512x128) ![n, 0, 0] S1x512x128.size inb).emb y)
def weightsAt (x1 : Vec F S25x128x32 .f32) (n : ℕ) (inb : ∀ a, (![n, 0, 0] : Fin 3 → ℕ) a + S1x128x32.size a ≤ S25x128x32.size a) :
    Vec F S1x128x32 .f32 := fun y => x1 ((Rect.unit (s := S25x128x32) ![n, 0, 0] S1x128x32.size inb).emb y)

/-- The hidden units' share of position `n`. -/
def share (x0 : Vec F S25x512x128 .f32) (x1 : Vec F S25x128x32 .f32) (n : ℕ) (h : n < 25) : FVec F S512x32 .f32 :=
  matmul dot_S512x128_S128x32_S512x32_1_0_0_1_n_n none (shapeCast S512x128 (rowsAt x0 n (inb_rows n h)) shapeCasts_S1x512x128_S512x128)
    (shapeCast S128x32 (weightsAt x1 n (inb_weights n h)) shapeCasts_S1x128x32_S128x32) (constant S512x32 .f32 0x00000000#32)

/-- The shares of the positions up to `n`, added in order. -/
def shares (x0 : Vec F S25x512x128 .f32) (x1 : Vec F S25x128x32 .f32) : (n : ℕ) → n < 25 → FVec F S512x32 .f32
  | 0, h => share x0 x1 0 h
  | n + 1, h => addf (shares x0 x1 n (Nat.lt_of_succ_lt h)) (share x0 x1 (n + 1) h)

/-- The sums a point starts from, those it leaves, and the output block it leaves. -/
def IsFirst (i : grid1.Coords) : Prop := Scalar.cmpi .ne (Scalar.extui (Scalar.cmpi .eq (BitVec.ofNat 32 (i 1).val) 0#32) : BitVec 32) 0#32 = 1#1
def IsLast (i : grid1.Coords) : Prop := k1_cond2 i = 1#1
instance (i : grid1.Coords) : Decidable (IsFirst i) := by unfold IsFirst; infer_instance
instance (i : grid1.Coords) : Decidable (IsLast i) := by unfold IsLast; infer_instance

def start (i : grid1.Coords) (acc : Vec F S512x32 .f32) : Vec F S512x32 .f32 := if IsFirst i then k1_pay1 else acc
def grown (acc : Vec F S512x32 .f32) (x0 : Vec F S25x512x128 .f32) (x1 : Vec F S25x128x32 .f32) : Vec F S512x32 .f32 :=
  shapeCast S512x32 (addf acc (shares x0 x1 24 (by omega))) shapeCasts_S512x32_S512x32
def left (i : grid1.Coords) (acc' : Vec F S512x32 .f32) (x2 x3 : Vec F S1x32 .f32) (x4 : Vec F S1x1 .f32) (o : Vec F S512x1 .f32) : Vec F S512x1 .f32 :=
  if IsLast i then k1_pay3 acc' x2 x3 x4 else o

/-! ### Reading and writing a buffer one holds -/

section access
variable {n : ℕ} {c : Thread nD τ} {cs : CoreSpace} {s : Shape} {e : EltTy} {α : Type}

/-- A load reads, of what the buffer holds, the rectangle's elements. -/
theorem wp_read {m : Memref sig c.2.kind cs s e} {X : s.Idx → Elt F e} {r : Rect s} {hl : m.view.LoadsAt r.toLoadRect}
    {k : (r.shape.Idx → Elt F e) → Prog (TpuEff nD τ sig (Elt F) Λ₀ c.2) α} {Q : α → sProp 𝕄} :
    owns c m fullShare X
      ⊢ iprop((owns c m fullShare X -∗ wp frame (wpE (defs₀ (F := F)) Variants.none c none) Set.univ (k fun y => X (r.emb y)) Q)
          -∗ wp frame (wpE (defs₀ (F := F)) Variants.none c none) Set.univ (.op (.load m r.toLoadRect hl) k) Q) := by
  unfold owns
  iintro ⟨%f, %hf, H⟩ Hk
  obtain rfl := hf
  iapply (wp_load Variants.none c none Set.univ (S := m.view.set) (View.setOn_subset_set m.view _)) $$ H
  iintro H
  iapply Hk
  iexists f; isplitr; · ipureintro; rfl
  iexact H

/-- Where a rectangle is the whole shape an index stays itself. -/
theorem emb_all {off : Fin s.rank → ℕ} (inb : ∀ a, off a + s.size a ≤ s.size a) (y : s.Idx) :
    (Rect.unit (s := s) off s.size inb).emb y = y := by
  funext a
  apply Fin.ext
  rw [Rect.emb_apply]
  have := inb a
  show off a + 1 * (y a).val = (y a).val
  omega

/-- A store through the whole rectangle leaves what it stores. -/
theorem wp_write {m : Memref sig c.2.kind cs s e} {X : s.Idx → Elt F e} {off : Fin s.rank → ℕ} {inb : ∀ a, off a + s.size a ≤ s.size a}
    {w : s.Idx → Elt F e} {hx : (m.access (Rect.unit (s := s) off s.size inb)).Stores Finset.univ}
    {hm : (Finset.univ : Finset (Rect.unit (s := s) off s.size inb).shape.Idx) = Finset.univ ∨ ∀ a, (Rect.unit (s := s) off s.size inb).stride a = 1}
    {k : PUnit → Prog (TpuEff nD τ sig (Elt F) Λ₀ c.2) α} {Q : α → sProp 𝕄} :
    owns c m fullShare X
      ⊢ iprop((owns c m fullShare w -∗ wp frame (wpE (defs₀ (F := F)) Variants.none c none) Set.univ (k ⟨⟩) Q)
          -∗ wp frame (wpE (defs₀ (F := F)) Variants.none c none) Set.univ
            (.op (.store m (Rect.unit (s := s) off s.size inb) w Finset.univ hx hm) k) Q) := by
  unfold owns
  iintro ⟨%f, -, H⟩ Hk
  iapply (wp_store (defs := defs₀ (F := F)) Variants.none c none Set.univ (m := m) (r := Rect.unit (s := s) off s.size inb) (w := w) (hx := hx) (hm := hm)
    (k := k) (f := f) (S := m.view.set) (View.set_slice_subset m.view _)) $$ H
  iintro H
  iapply Hk
  iexists _; isplitr [H]; swap; · iexact H
  ipureintro
  funext y
  have h := congrFun (View.read_write_univ (v := m.access (Rect.unit (s := s) off s.size inb)) f w) y
  refine Eq.trans ?_ h
  exact (congrArg (m.view.read (Elt F) _) (emb_all inb y)).symm

/-- A load of one position's rows, and one of its weights. -/
theorem wp_row {n : ℕ} {c : Dev nD} {m : Memref sig .tc .vmem S25x512x128 .f32} {x0 : Vec F S25x512x128 .f32}
    {inb : ∀ a, (![n, 0, 0] : Fin 3 → ℕ) a + S1x512x128.size a ≤ S25x512x128.size a}
    {hl : m.view.LoadsAt (Rect.unit (s := S25x512x128) ![n, 0, 0] S1x512x128.size inb).toLoadRect}
    {k : Vec F S1x512x128 .f32 → Prog (TpuEff nD τ sig (Elt F) Λ₀ .tc) α} {Q : α → sProp 𝕄} :
    owns (c : Thread nD τ) m fullShare x0
      ⊢ iprop((owns (c : Thread nD τ) m fullShare x0 -∗ wp frame (wpE (defs₀ (F := F)) Variants.none (c : Thread nD τ) none) Set.univ (k (rowsAt x0 n inb)) Q)
          -∗ wp frame (wpE (defs₀ (F := F)) Variants.none (c : Thread nD τ) none) Set.univ
            (.op (.load m (Rect.unit (s := S25x512x128) ![n, 0, 0] S1x512x128.size inb).toLoadRect hl) k) Q) :=
  wp_read (c := (c : Thread nD τ)) (m := m) (X := x0) (r := Rect.unit (s := S25x512x128) ![n, 0, 0] S1x512x128.size inb) (hl := hl) (k := k) (Q := Q)
theorem wp_weight {n : ℕ} {c : Dev nD} {m : Memref sig .tc .vmem S25x128x32 .f32} {x1 : Vec F S25x128x32 .f32}
    {inb : ∀ a, (![n, 0, 0] : Fin 3 → ℕ) a + S1x128x32.size a ≤ S25x128x32.size a}
    {hl : m.view.LoadsAt (Rect.unit (s := S25x128x32) ![n, 0, 0] S1x128x32.size inb).toLoadRect}
    {k : Vec F S1x128x32 .f32 → Prog (TpuEff nD τ sig (Elt F) Λ₀ .tc) α} {Q : α → sProp 𝕄} :
    owns (c : Thread nD τ) m fullShare x1
      ⊢ iprop((owns (c : Thread nD τ) m fullShare x1 -∗ wp frame (wpE (defs₀ (F := F)) Variants.none (c : Thread nD τ) none) Set.univ (k (weightsAt x1 n inb)) Q)
          -∗ wp frame (wpE (defs₀ (F := F)) Variants.none (c : Thread nD τ) none) Set.univ
            (.op (.load m (Rect.unit (s := S25x128x32) ![n, 0, 0] S1x128x32.size inb).toLoadRect hl) k) Q) :=
  wp_read (c := (c : Thread nD τ)) (m := m) (X := x1) (r := Rect.unit (s := S25x128x32) ![n, 0, 0] S1x128x32.size inb) (hl := hl) (k := k) (Q := Q)

/-- A load of the whole rectangle reads all the buffer holds. -/
theorem wp_read_all {m : Memref sig c.2.kind cs s e} {X : s.Idx → Elt F e} {off : Fin s.rank → ℕ} {inb : ∀ a, off a + s.size a ≤ s.size a}
    {hl : m.view.LoadsAt (Rect.unit (s := s) off s.size inb).toLoadRect}
    {k : (s.Idx → Elt F e) → Prog (TpuEff nD τ sig (Elt F) Λ₀ c.2) α} {Q : α → sProp 𝕄} :
    owns c m fullShare X
      ⊢ iprop((owns c m fullShare X -∗ wp frame (wpE (defs₀ (F := F)) Variants.none c none) Set.univ (k X) Q)
          -∗ wp frame (wpE (defs₀ (F := F)) Variants.none c none) Set.univ (.op (.load m (Rect.unit (s := s) off s.size inb).toLoadRect hl) k) Q) := by
  have h := wp_read (c := c) (m := m) (X := X) (r := Rect.unit (s := s) off s.size inb) (hl := hl) (k := k) (Q := Q)
  rwa [show (fun y => X ((Rect.unit (s := s) off s.size inb).emb y)) = X from funext fun y => congrArg X (emb_all inb y)] at h

/-- A branch taken, and one not taken. -/
theorem wp_then {P : Prop} [Decidable P] {t : P → Prog (TpuEff nD τ sig (Elt F) Λ₀ c.2) α} {u : ¬P → Prog (TpuEff nD τ sig (Elt F) Λ₀ c.2) α}
    {Q : α → sProp 𝕄} (h : P) :
    wp frame (wpE (defs₀ (F := F)) Variants.none c none) Set.univ (t h) Q
      ⊢ wp frame (wpE (defs₀ (F := F)) Variants.none c none) Set.univ (dite P t u) Q := by rw [dif_pos h]
theorem wp_else {P : Prop} [Decidable P] {t : P → Prog (TpuEff nD τ sig (Elt F) Λ₀ c.2) α} {u : ¬P → Prog (TpuEff nD τ sig (Elt F) Λ₀ c.2) α}
    {Q : α → sProp 𝕄} (h : ¬P) :
    wp frame (wpE (defs₀ (F := F)) Variants.none c none) Set.univ (u h) Q
      ⊢ wp frame (wpE (defs₀ (F := F)) Variants.none c none) Set.univ (dite P t u) Q := by rw [dif_neg h]

/-- A program that has returned. -/
theorem wp_done {a : α} {Q : α → sProp 𝕄} : Q a ⊢ wp frame (wpE (defs₀ (F := F)) Variants.none c none) Set.univ (.ret a) Q := by
  rw [wp_ret]; exact fupd_intro

end access

/-- The sums as the printed body adds them up. -/
theorem grown_eq (acc : Vec F S512x32 .f32) (x0 : Vec F S25x512x128 .f32) (x1 : Vec F S25x128x32 .f32) :
    k1_pay2 (k1_pay12 (k1_pay10 (k1_pay7 (k1_pay6 (k1_pay4
        (rowsAt x0 0 inb_S25x512x128_S1x512x128_0_0_0) (weightsAt x1 0 inb_S25x128x32_S1x128x32_0_0_0) (rowsAt x0 1 inb_S25x512x128_S1x512x128_1_0_0) (weightsAt x1 1 inb_S25x128x32_S1x128x32_1_0_0)
        (rowsAt x0 2 inb_S25x512x128_S1x512x128_2_0_0) (weightsAt x1 2 inb_S25x128x32_S1x128x32_2_0_0) (rowsAt x0 3 inb_S25x512x128_S1x512x128_3_0_0) (weightsAt x1 3 inb_S25x128x32_S1x128x32_3_0_0))
        (k1_pay5 (rowsAt x0 4 inb_S25x512x128_S1x512x128_4_0_0)) (weightsAt x1 4 inb_S25x128x32_S1x128x32_4_0_0)
        (rowsAt x0 5 inb_S25x512x128_S1x512x128_5_0_0) (weightsAt x1 5 inb_S25x128x32_S1x128x32_5_0_0) (rowsAt x0 6 inb_S25x512x128_S1x512x128_6_0_0) (weightsAt x1 6 inb_S25x128x32_S1x128x32_6_0_0)
        (rowsAt x0 7 inb_S25x512x128_S1x512x128_7_0_0) (weightsAt x1 7 inb_S25x128x32_S1x128x32_7_0_0) (rowsAt x0 8 inb_S25x512x128_S1x512x128_8_0_0) (weightsAt x1 8 inb_S25x128x32_S1x128x32_8_0_0))
        (rowsAt x0 9 inb_S25x512x128_S1x512x128_9_0_0) (weightsAt x1 9 inb_S25x128x32_S1x128x32_9_0_0) (rowsAt x0 10 inb_S25x512x128_S1x512x128_10_0_0) (weightsAt x1 10 inb_S25x128x32_S1x128x32_10_0_0)
        (rowsAt x0 11 inb_S25x512x128_S1x512x128_11_0_0) (weightsAt x1 11 inb_S25x128x32_S1x128x32_11_0_0) (rowsAt x0 12 inb_S25x512x128_S1x512x128_12_0_0) (weightsAt x1 12 inb_S25x128x32_S1x128x32_12_0_0))
        (k1_pay8 (rowsAt x0 13 inb_S25x512x128_S1x512x128_13_0_0)) (k1_pay9 (weightsAt x1 13 inb_S25x128x32_S1x128x32_13_0_0))
        (rowsAt x0 14 inb_S25x512x128_S1x512x128_14_0_0) (weightsAt x1 14 inb_S25x128x32_S1x128x32_14_0_0) (rowsAt x0 15 inb_S25x512x128_S1x512x128_15_0_0) (weightsAt x1 15 inb_S25x128x32_S1x128x32_15_0_0)
        (rowsAt x0 16 inb_S25x512x128_S1x512x128_16_0_0) (weightsAt x1 16 inb_S25x128x32_S1x128x32_16_0_0) (rowsAt x0 17 inb_S25x512x128_S1x512x128_17_0_0) (weightsAt x1 17 inb_S25x128x32_S1x128x32_17_0_0))
        (k1_pay11 (rowsAt x0 18 inb_S25x512x128_S1x512x128_18_0_0)) (weightsAt x1 18 inb_S25x128x32_S1x128x32_18_0_0)
        (rowsAt x0 19 inb_S25x512x128_S1x512x128_19_0_0) (weightsAt x1 19 inb_S25x128x32_S1x128x32_19_0_0) (rowsAt x0 20 inb_S25x512x128_S1x512x128_20_0_0) (weightsAt x1 20 inb_S25x128x32_S1x128x32_20_0_0)
        (rowsAt x0 21 inb_S25x512x128_S1x512x128_21_0_0) (weightsAt x1 21 inb_S25x128x32_S1x128x32_21_0_0) (rowsAt x0 22 inb_S25x512x128_S1x512x128_22_0_0) (weightsAt x1 22 inb_S25x128x32_S1x128x32_22_0_0))
        (rowsAt x0 23 inb_S25x512x128_S1x512x128_23_0_0) (weightsAt x1 23 inb_S25x128x32_S1x128x32_23_0_0) (rowsAt x0 24 inb_S25x512x128_S1x512x128_24_0_0) (weightsAt x1 24 inb_S25x128x32_S1x128x32_24_0_0) acc
      = grown acc x0 x1 := by
  simp only [grown, shares, share]
  rfl

/-! ### The body -/

section body
variable (c : Dev nD) (i : grid1.Coords)
  (arg2 : Memref sig .tc .vmem S25x512x128 .f32) (harg2 : arg2.IsWhole) (arg3 : Memref sig .tc .vmem S25x128x32 .f32) (harg3 : arg3.IsWhole)
  (arg4 : Memref sig .tc .vmem S1x32 .f32) (harg4 : arg4.IsWhole) (arg5 : Memref sig .tc .vmem S1x32 .f32) (harg5 : arg5.IsWhole)
  (arg6 : Memref sig .tc .vmem S1x1 .f32) (harg6 : arg6.IsWhole) (arg7 : Memref sig .tc .vmem S512x1 .f32) (harg7 : arg7.IsWhole)
  (arg8 : Memref sig .tc .vmem S512x32 .f32) (harg8 : arg8.IsWhole)
  (x0 : Vec F S25x512x128 .f32) (x1 : Vec F S25x128x32 .f32) (x2 x3 : Vec F S1x32 .f32) (x4 : Vec F S1x1 .f32)
  (o : Vec F S512x1 .f32) (acc : Vec F S512x32 .f32)

/-- What a point holds: its seven buffers. -/
def held (o : Vec F S512x1 .f32) (acc : Vec F S512x32 .f32) : sProp 𝕄 :=
  iprop(owns (c : Thread nD τ) arg2 fullShare x0 ∗ owns (c : Thread nD τ) arg3 fullShare x1 ∗ owns (c : Thread nD τ) arg4 fullShare x2
    ∗ owns (c : Thread nD τ) arg5 fullShare x3 ∗ owns (c : Thread nD τ) arg6 fullShare x4 ∗ owns (c : Thread nD τ) arg7 fullShare o
    ∗ owns (c : Thread nD τ) arg8 fullShare acc)

set_option maxHeartbeats 1000000 in
/-- The body, from the buffers it finds to the buffers it leaves. -/
theorem body_runs (K : PUnit → sProp 𝕄) :
    iprop(held c arg2 arg3 arg4 arg5 arg6 arg7 arg8 x0 x1 x2 x3 x4 o acc
        ∗ (held c arg2 arg3 arg4 arg5 arg6 arg7 arg8 x0 x1 x2 x3 x4 (left i (grown (start i acc) x0 x1) x2 x3 x4 o) (grown (start i acc) x0 x1) -∗ K ⟨⟩))
      ⊢ wp frame (wpE (defs₀ (F := F)) Variants.none c none) Set.univ
          (cc1__mlp_body i arg2 harg2 arg3 harg3 arg4 harg4 arg5 harg5 arg6 harg6 arg7 harg7 arg8 harg8) K := by
  rw [cc1__mlp_body_eq_skeleton]; unfold cc1__mlp_body_skel held
  iintro ⟨⟨H0, H1, H2, H3, H4, H5, H6⟩, Hk⟩
  -- the loads of the 25 positions, through the five parts that the body is printed in
  rw [wp_bind, k1_part1_eq_skeleton]; unfold k1_part1_skel
  iterate 4
    iapply wp_row $$ H0; iintro H0
    iapply wp_weight $$ H1; iintro H1
  iapply wp_row $$ H0; iintro H0
  iapply wp_done
  rw [wp_bind, k1_part2_eq_skeleton]; unfold k1_part2_skel
  iapply wp_weight $$ H1; iintro H1
  iterate 4
    iapply wp_row $$ H0; iintro H0
    iapply wp_weight $$ H1; iintro H1
  iapply wp_done
  rw [wp_bind, k1_part3_eq_skeleton]; unfold k1_part3_skel
  iterate 5
    iapply wp_row $$ H0; iintro H0
    iapply wp_weight $$ H1; iintro H1
  iapply wp_done
  rw [wp_bind, k1_part4_eq_skeleton]; unfold k1_part4_skel
  iterate 4
    iapply wp_row $$ H0; iintro H0
    iapply wp_weight $$ H1; iintro H1
  iapply wp_row $$ H0; iintro H0
  iapply wp_done
  rw [wp_bind, k1_part5_eq_skeleton]; unfold k1_part5_skel
  iapply wp_weight $$ H1; iintro H1
  iterate 4
    iapply wp_row $$ H0; iintro H0
    iapply wp_weight $$ H1; iintro H1
  iapply wp_done
  iterate 2
    iapply wp_row $$ H0; iintro H0
    iapply wp_weight $$ H1; iintro H1
  -- the sums before this point: zero at the first, what the scratch holds elsewhere
  by_cases hf : IsFirst i
  on_goal 1 =>
    rw [start, if_pos hf]
    iapply (wp_then hf)
    iapply wp_read_all $$ H6; iintro H6
    iapply wp_write $$ H6; iintro H6
  on_goal 2 =>
    rw [start, if_neg hf]
    iapply (wp_else hf)
  all_goals
    iapply wp_read_all $$ H6; iintro H6
    iapply wp_read_all $$ H6; iintro H6
    iapply wp_write $$ H6; iintro H6
    ihave H6' := (Entails.of_eq (congrArg (owns (c : Thread nD τ) arg8 fullShare) (grown_eq _ x0 x1))) $$ H6
    by_cases hl : IsLast i
    · rw [left, if_pos hl]
      iapply (wp_then hl)
      iapply wp_read_all $$ H6'; iintro H6'
      iapply wp_read_all $$ H2; iintro H2
      iapply wp_read_all $$ H3; iintro H3
      iapply wp_read_all $$ H4; iintro H4
      iapply wp_read_all $$ H5; iintro H5
      iapply wp_write $$ H5; iintro H5
      iapply wp_done
      iapply Hk
      iframe
    · rw [left, if_neg hl]
      iapply (wp_else hl)
      iapply wp_done
      iapply Hk
      iframe

end body

end Cert.Proof.Mlp

end
-- ==== Proof.Trip.lean ====
/-
  The subcore's loop: its invariant, and one trip of it. Before trip `p` both row buffers are being filled, with the
  rows of block `2p` and of block `2p + 1`; a trip waits for each, sends it out, and, but for the last, waits for the
  copy out and starts the gather for two blocks on.
-/
module

public import proofs.«01_k».proof.Proof.Ops

@[expose] public section

set_option maxRecDepth 16384

noncomputable section

namespace Cert.Proof.Tile

open Cert.KernelIdeal Cert.KernelIdeal.Gen
open Cert.Proof.Rows

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- The subcore at grid coordinates `L`, and the first row it gathers. -/
abbrev cV (L : grid0.Coords) : Fin τ.nSC := (L 0).castLE hcore0
abbrev jV (L : grid0.Coords) : Fin τ.nSub := (L 1).castLE hsub0
def base (L : grid0.Coords) : ℕ := 51200 * (L 1).val + 25600 * (L 0).val

/-- The four semaphores: the gathers', the copies' out. -/
abbrev g₀ : DmaSem sig := cc0_scratch3.sem
abbrev g₁ : DmaSem sig := cc0_scratch4.sem
abbrev o₀ : DmaSem sig := cc0_scratch5.sem
abbrev o₁ : DmaSem sig := cc0_scratch6.sem

/-- What one copy's wait is for: the bytes of one row buffer. -/
abbrev bytes : ℕ := rowCredit aV

theorem again_iff : ∀ t : Fin k0_t1_loop.trips, k0_cond1 t = 1#1 ↔ t.val + 1 < 100 := by decide +kernel
theorem trips_eq : k0_t1_loop.trips = 100 := by decide +kernel

/-- Where a trip's four slices begin, in the invariant's terms. -/
theorem store0_at (L : grid0.Coords) (p : Fin k0_t1_loop.trips) : k0_off2 L p = ![base L + 256 * p.val, 0] := k0_off2_eq L p
theorem store1_at (L : grid0.Coords) (p : Fin k0_t1_loop.trips) : k0_off3 L p = ![base L + (256 * p.val + 128), 0] := by
  rw [k0_off3_eq, base, Nat.add_assoc _ _ 128]
theorem list0_at (p : Fin k0_t1_loop.trips) : k0_off5 p 2#32 = ![256 * (p.val + 1)] :=
  (k0_off5_eq p 0).trans (by rw [show 256 * p.val + 128 * (0 : Fin 2).val + 256 = 256 * (p.val + 1) by simp; omega])
theorem list1_at (p : Fin k0_t1_loop.trips) : k0_off5 p 3#32 = ![256 * (p.val + 1) + 128] :=
  (k0_off5_eq p 1).trans (by rw [show 256 * p.val + 128 * (1 : Fin 2).val + 256 = 256 * (p.val + 1) + 128 by simp; omega])

variable [FloatOps F]
variable (d : Dev nD) (L : grid0.Coords)
variable (x : S819200.Idx → Elt F .i32) (t : S100000x128.Idx → Elt F .f32) (f : S819200x128.Idx → Elt F .f32)
variable (q : PosShare TreeShare) (O : CellTallies nD τ sig (HIx 1)) (W : Waits sig (HIx 1))

theorem out_split {lo hi : ℕ} (mid : ℕ) (h₁ : lo ≤ mid) (h₂ : mid ≤ hi) :
    (outPts d (band lo hi) f : sProp 𝕄) ⊢ iprop(outPts d (band lo mid) f ∗ outPts d (band mid hi) f) := by
  rw [band_union h₁ h₂]; exact (pointsTo_union (band_disjoint le_rfl)).1

theorem out_join {lo hi : ℕ} (mid : ℕ) (h₁ : lo ≤ mid) (h₂ : mid ≤ hi) :
    iprop(outPts d (band lo mid) f ∗ outPts d (band mid hi) f) ⊢ (outPts d (band lo hi) f : sProp 𝕄) := by
  rw [band_union h₁ h₂]; exact (pointsTo_union (band_disjoint le_rfl)).2

/-- Three bands end to end. -/
theorem out_join₃ {a₀ a₁ a₂ a₃ : ℕ} {r₁ r₂ : ℕ} (h₁ : r₁ = a₁) (h₂ : r₂ = a₂) (e₁ : r₁ + 128 = a₂) (e₂ : r₂ + 128 = a₃) (h : a₀ ≤ a₁) :
    iprop(outPts d (band a₀ a₁) f ∗ outPts d (band r₁ (r₁ + 128)) f ∗ outPts d (band r₂ (r₂ + 128)) f) ⊢ (outPts d (band a₀ a₃) f : sProp 𝕄) := by
  subst h₁ h₂
  rw [e₁, e₂]
  iintro ⟨H₀, H₁, H₂⟩
  iapply (out_join d f r₂ (by omega) (by omega))
  isplitl [H₀ H₁]
  · iapply (out_join d f r₁ (by omega) (by omega))
    isplitl [H₀] <;> iassumption
  · iexact H₂

abbrev cell0 (s : DmaSem sig) : sProp 𝕄 := semVal (V d (cV L) (jV L), SemLoc.dma s) 0

/-- Both gathers under way, for the blocks of trip `p`; the rows before them written, the rows from them on not yet. -/
def Filling (p : ℕ) : sProp 𝕄 :=
  iprop(Gathering d (cV L) (jV L) x t g₀ aV bytes (base L) (256 * p) q.left fullShare.left
    ∗ Gathering d (cV L) (jV L) x t g₁ bV bytes (base L) (256 * p + 128) q.right fullShare.right
    ∗ cell0 d L o₀ ∗ cell0 d L o₁
    ∗ outPts d (band (base L) (base L + 256 * p)) (gathered x t) ∗ outPts d (band (base L + 256 * p) (base L + 25600)) f
    ∗ Owe d (cV L) (jV L) O W)

/-- Both copies out under way, of the blocks of trip `p`. -/
def Draining (p : ℕ) : sProp 𝕄 :=
  iprop(Storing d (cV L) (jV L) x t o₀ aV bytes (base L + 256 * p)
    ∗ Storing d (cV L) (jV L) x t o₁ bV bytes (base L + (256 * p + 128))
    ∗ cell0 d L g₀ ∗ cell0 d L g₁
    ∗ tabPts d t q.left ∗ tabPts d t q.right
    ∗ listPts d (cV L) (jV L) x (base L) fullShare.left Finset.univ ∗ listPts d (cV L) (jV L) x (base L) fullShare.right Finset.univ
    ∗ outPts d (band (base L) (base L + 256 * p)) (gathered x t) ∗ outPts d (band (base L + 256 * p + 256) (base L + 25600)) f
    ∗ Owe d (cV L) (jV L) O W)

/-- The loop's invariant: after the last trip its two copies out are still under way. -/
def Inv (p : ℕ) : sProp 𝕄 := if p < 100 then Filling d L x t f q O W p else Draining d L x t f q O W 99

abbrev tripBody : Fin k0_t1_loop.trips → Unit → Prog (TpuEff nD τ sig (Elt F) Λ₀ (.scVector (cV L) (jV L))) Unit :=
  k0_t1_body (F := F) L xV (Memref.isWhole_whole _) tV (Memref.isWhole_whole _) oV (Memref.isWhole_whole _) sV (Memref.isWhole_whole _)
    aV (Memref.isWhole_whole _) bV (Memref.isWhole_whole _) cc0_scratch3 cc0_scratch4 cc0_scratch5 cc0_scratch6 cc0_scoped0

theorem gather_bytes_a : ∑ j, ((aV).slice (S128x128.rowRect gathers_S100000x128_S128x128.axis' j) (S128x128.stride_rowRect gathers_S100000x128_S128x128.axis' j)).view.dmaCredit = bytes := by
  decide +kernel
theorem gather_bytes_b : ∑ j, ((bV).slice (S128x128.rowRect gathers_S100000x128_S128x128.axis' j) (S128x128.stride_rowRect gathers_S100000x128_S128x128.axis' j)).view.dmaCredit = bytes := by
  decide +kernel

theorem storing_bytes {off : Fin 2 → ℕ} (inb : ∀ a, off a + S128x128.size a ≤ S819200x128.size a) : (oPart off inb).view.dmaCredit = bytes := rfl

/-- The last trip ends with its copies out under way. -/
theorem trip_last {p : Fin k0_t1_loop.trips} (h : ¬k0_cond1 p = 1#1) :
    Draining d L x t f q O W p.val ⊢ Inv d L x t f q O W (p.val + 1) := by
  have hp : p.val < 100 := p.isLt.trans_eq trips_eq
  rw [again_iff] at h
  unfold Inv
  rw [if_neg h, show p.val = 99 by omega]

set_option maxHeartbeats 1000000 in
/-- One trip. -/
theorem trip (hx : ∀ j, (x j).toNat < 100000) (p : Fin k0_t1_loop.trips) (u : Unit) :
    iprop(Transfers.MayWaits (V d (cV L) (jV L)) (default : HIx 1) O ∗ Inv d L x t f q O W p.val)
      ⊢ wp frame (wpE (defs₀ (F := F)) 𝒱₀ (V d (cV L) (jV L)) none) Set.univ (tripBody (F := F) L p u)
          fun _ => iprop(Transfers.MayWaits (V d (cV L) (jV L)) (default : HIx 1) O ∗ Inv d L x t f q O W (p.val + 1)) := by
  have hp : p.val < 100 := p.isLt.trans_eq trips_eq
  have hfill : Inv d L x t f q O W p.val = Filling d L x t f q O W p.val := if_pos hp
  rw [hfill]
  unfold tripBody k0_t1_body Filling
  iintro ⟨#Hmw, Ha, Hb, Hv0, Hv1, Hdone, Htodo, HO⟩
  -- the first buffer is full: send it out
  iapply (wp_gathered d (cV L) (jV L) x t (O := O) (W := W) g₀ aV _ _ _) $$ [Ha HO]
  · isplitr; · iexact Hmw
    isplitl [Ha]; · iexact Ha
    iexact HO
  iintro ⟨Ha, Ht0, Hs0, Hg0, HO⟩
  ihave Htodo' := (out_split d f (base L + 256 * p.val + 128) (by omega) (by omega)) $$ Htodo
  icases Htodo' with ⟨Hrows, Htodo⟩
  iapply (wp_store d (cV L) (jV L) x t (store0_at L p) (k0_off2_inb L p) o₀ aV f bytes (storing_bytes _) _ _ _ _) $$ [Ha Hrows Hv0]
  · isplitl [Ha]; · iexact Ha
    isplitl [Hrows]; · iexact Hrows
    iexact Hv0
  iintro Hst0
  -- the second likewise
  iapply (wp_gathered d (cV L) (jV L) x t (O := O) (W := W) g₁ bV _ _ _) $$ [Hb HO]
  · isplitr; · iexact Hmw
    isplitl [Hb]; · iexact Hb
    iexact HO
  iintro ⟨Hb, Ht1, Hs1, Hg1, HO⟩
  ihave Htodo' := (out_split d f (base L + 256 * p.val + 128 + 128) (by omega) (by omega)) $$ Htodo
  icases Htodo' with ⟨Hrows, Htodo⟩
  iapply (wp_store d (cV L) (jV L) x t (store1_at L p) (k0_off3_inb L p) o₁ bV f bytes (storing_bytes _) _ _ _ _) $$ [Hb Hrows Hv1]
  · isplitl [Hb]; · iexact Hb
    isplitl [Hrows]; · iexact Hrows
    iexact Hv1
  iintro Hst1
  by_cases h : k0_cond1 p = 1#1
  · have h' := (again_iff p).mp h
    have hnext : Inv d L x t f q O W (p.val + 1) = Filling d L x t f q O W (p.val + 1) := if_pos h'
    rw [dif_pos h, hnext]
    unfold Filling
    -- the first copy out is done: start the gather of the block after next
    iapply (wp_stored d (cV L) (jV L) x t (O := O) (W := W) o₀ aV (k0_off4_inb L p h) bytes (storing_bytes _) _ _ _) $$ [Hst0 HO]
    · isplitr; · iexact Hmw
      isplitl [Hst0]; · iexact Hst0
      iexact HO
    iintro ⟨Hout0, Ha, Hv0, HO⟩
    iapply (wp_gather d (cV L) (jV L) x t (list0_at p) (k0_off5_inb p h 0) hx g₀ aV bytes gather_bytes_a q.left fullShare.left _ _) $$ [Ha Ht0 Hs0 Hg0]
    · isplitl [Ha]; · iexact Ha
      isplitl [Ht0]; · iexact Ht0
      isplitl [Hs0]; · iexact Hs0
      iexact Hg0
    iintro Hga
    -- and the second
    iapply (wp_stored d (cV L) (jV L) x t (O := O) (W := W) o₁ bV (k0_off4_inb L p h) bytes (storing_bytes _) _ _ _) $$ [Hst1 HO]
    · isplitr; · iexact Hmw
      isplitl [Hst1]; · iexact Hst1
      iexact HO
    iintro ⟨Hout1, Hb, Hv1, HO⟩
    iapply (wp_gather d (cV L) (jV L) x t (list1_at p) (k0_off5_inb p h 1) hx g₁ bV bytes gather_bytes_b q.right fullShare.right _ _) $$ [Hb Ht1 Hs1 Hg1]
    · isplitl [Hb]; · iexact Hb
      isplitl [Ht1]; · iexact Ht1
      isplitl [Hs1]; · iexact Hs1
      iexact Hg1
    iintro Hgb
    sl_step
    isplitr; · iexact Hmw
    isplitl [Hga]; · iexact Hga
    isplitl [Hgb]; · iexact Hgb
    isplitl [Hv0]; · iexact Hv0
    isplitl [Hv1]; · iexact Hv1
    isplitl [Hdone Hout0 Hout1]
    · iapply (out_join₃ d (gathered x t) (a₁ := base L + 256 * p.val) (a₂ := base L + 256 * p.val + 128) (r₁ := base L + 256 * p.val)
        (r₂ := base L + (256 * p.val + 128)) rfl (by omega) rfl (by omega) (by omega))
      isplitl [Hdone]; · iexact Hdone
      isplitl [Hout0] <;> iassumption
    isplitl [Htodo]
    · rw [show base L + 256 * (p.val + 1) = base L + 256 * p.val + 128 + 128 by omega]; iexact Htodo
    iexact HO
  · rw [dif_neg h]
    sl_step
    isplitr; · iexact Hmw
    iapply (trip_last d L x t f q O W h)
    unfold Draining
    isplitl [Hst0]; · iexact Hst0
    isplitl [Hst1]; · iexact Hst1
    isplitl [Hg0]; · iexact Hg0
    isplitl [Hg1]; · iexact Hg1
    isplitl [Ht0]; · iexact Ht0
    isplitl [Ht1]; · iexact Ht1
    isplitl [Hs0]; · iexact Hs0
    isplitl [Hs1]; · iexact Hs1
    isplitl [Hdone]; · iexact Hdone
    isplitl [Htodo]; · iexact Htodo
    iexact HO

end Cert.Proof.Tile
-- ==== Proof.Tile.lean ====
/-
  One subcore's whole task: fetch its 25600 words of the list, start the first two gathers, run the loop, wait for the
  last two copies out. It begins with a read share of the list and of the table and its band of the gathered array, and
  ends with the same, the band at the rows the list names.
-/
module

public import proofs.«01_k».proof.Proof.Trip

@[expose] public section

set_option maxRecDepth 16384

noncomputable section

namespace Cert.Proof.Tile

open Cert.KernelIdeal Cert.KernelIdeal.Gen
open Cert.Proof.Rows

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The program as the launch theorem sees it -/

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

variable [FloatOps F]
variable (d : Dev nD) (L : grid0.Coords)
variable (x : S819200.Idx → Elt F .i32) (t : S100000x128.Idx → Elt F .f32) (f : S819200x128.Idx → Elt F .f32)
variable (q : PosShare TreeShare)

/-! ## The subcore's own semaphores and buffers -/

abbrev own (s : DmaSem sig) : GSem nD τ sig := (V d (cV L) (jV L), .dma s)

theorem own_ne {s s' : DmaSem sig} (h : s ≠ s') : own d L s ≠ own d L s' := fun e => h (SemLoc.dma.inj (congrArg Prod.snd e))

theorem own_mem {s : DmaSem sig} (h : (SemLoc.dma s : SemLoc sig).isScoped .scVector = true) : own d L s ∈ ownCells (V d (cV L) (jV L)) :=
  mem_ownCells.mpr ⟨rfl, h⟩

/-- The rest of the subcore's semaphores, which the task leaves alone. -/
abbrev restCells : Finset (GSem nD τ sig) :=
  ((((((ownCells (V d (cV L) (jV L))).erase (own d L g₀)).erase (own d L g₁)).erase (own d L o₀)).erase (own d L o₁)).erase (own d L cc0_scoped0.sem))

theorem sems_split :
    (ownSems0 (V d (cV L) (jV L)) : sProp 𝕄)
      = iprop(cell0 d L g₀ ∗ cell0 d L g₁ ∗ cell0 d L o₀ ∗ cell0 d L o₁ ∗ cell0 d L cc0_scoped0.sem
          ∗ bigSep (restCells d L) fun g => semVal g 0) := by
  have h₁ : own d L g₁ ∈ (ownCells (V d (cV L) (jV L))).erase (own d L g₀) :=
    Finset.mem_erase.mpr ⟨own_ne d L (by decide), own_mem d L (by decide)⟩
  have h₂ : own d L o₀ ∈ ((ownCells (V d (cV L) (jV L))).erase (own d L g₀)).erase (own d L g₁) :=
    Finset.mem_erase.mpr ⟨own_ne d L (by decide), Finset.mem_erase.mpr ⟨own_ne d L (by decide), own_mem d L (by decide)⟩⟩
  have h₃ : own d L o₁ ∈ (((ownCells (V d (cV L) (jV L))).erase (own d L g₀)).erase (own d L g₁)).erase (own d L o₀) :=
    Finset.mem_erase.mpr ⟨own_ne d L (by decide), Finset.mem_erase.mpr ⟨own_ne d L (by decide),
      Finset.mem_erase.mpr ⟨own_ne d L (by decide), own_mem d L (by decide)⟩⟩⟩
  have h₄ : own d L cc0_scoped0.sem ∈ ((((ownCells (V d (cV L) (jV L))).erase (own d L g₀)).erase (own d L g₁)).erase (own d L o₀)).erase (own d L o₁) :=
    Finset.mem_erase.mpr ⟨own_ne d L (by decide), Finset.mem_erase.mpr ⟨own_ne d L (by decide),
      Finset.mem_erase.mpr ⟨own_ne d L (by decide), Finset.mem_erase.mpr ⟨own_ne d L (by decide), own_mem d L (by decide)⟩⟩⟩⟩
  unfold SparseCore.Cfg.ownSems0
  rw [SparseCore.bigSep_erase' (own_mem d L (s := g₀) (by decide)), SparseCore.bigSep_erase' h₁, SparseCore.bigSep_erase' h₂,
    SparseCore.bigSep_erase' h₃, SparseCore.bigSep_erase' h₄]

abbrev ref (b : Ref sig .scVector) : DevRef τ sig := (Proc.scVector (cV L) (jV L)).devRef b
theorem ref_ne {b b' : Ref sig .scVector} (h : b ≠ b') : ref L b ≠ ref L b' := fun e => h (Proc.devRef_injective _ e)

abbrev restRefs : Finset (DevRef τ sig) :=
  (((ownRefs (τ := τ) (.scVector (cV L) (jV L))).erase (ref L cc0_scratch0)).erase (ref L cc0_scratch1)).erase (ref L cc0_scratch2)

/-- Some contents of one of the subcore's buffers. -/
abbrev anyOf (b : Ref sig .scVector) : sProp 𝕄 := iprop(∃ f, (V d (cV L) (jV L)).loc b ↦{fullShare} f)

theorem bufs_split :
    (ownBufs (V d (cV L) (jV L)) : sProp 𝕄)
      = iprop(anyOf d L cc0_scratch0 ∗ anyOf d L cc0_scratch1 ∗ anyOf d L cc0_scratch2
          ∗ bigSep (restRefs L) fun b => iprop(∃ f, ((d, b) : Loc nD τ sig) ↦{fullShare} f)) := by
  have h₀ : ref L cc0_scratch0 ∈ ownRefs (τ := τ) (.scVector (cV L) (jV L)) := SparseCore.Cfg.mem_ownRefs_of_owner (p := Proc.scVector (cV L) (jV L)) rfl
  have h₁ : ref L cc0_scratch1 ∈ (ownRefs (τ := τ) (.scVector (cV L) (jV L))).erase (ref L cc0_scratch0) :=
    Finset.mem_erase.mpr ⟨ref_ne L (by decide), SparseCore.Cfg.mem_ownRefs_of_owner (p := Proc.scVector (cV L) (jV L)) rfl⟩
  have h₂ : ref L cc0_scratch2 ∈ ((ownRefs (τ := τ) (.scVector (cV L) (jV L))).erase (ref L cc0_scratch0)).erase (ref L cc0_scratch1) :=
    Finset.mem_erase.mpr ⟨ref_ne L (by decide), Finset.mem_erase.mpr ⟨ref_ne L (by decide),
      SparseCore.Cfg.mem_ownRefs_of_owner (p := Proc.scVector (cV L) (jV L)) rfl⟩⟩
  unfold SparseCore.Cfg.ownBufs
  refine (SparseCore.bigSep_erase' h₀).trans ?_
  rw [SparseCore.bigSep_erase' h₁, SparseCore.bigSep_erase' h₂]

/-- A row buffer of any contents, by its whole array or by its own elements. -/
theorem any_a : anyOf (F := F) d L cc0_scratch1 ⊣⊢ anyBuf d (cV L) (jV L) aV := by
  unfold anyBuf; rw [show (aV).view.set = Finset.univ from View.set_whole _]
theorem any_b : anyOf (F := F) d L cc0_scratch2 ⊣⊢ anyBuf d (cV L) (jV L) bV := by
  unfold anyBuf; rw [show (bV).view.set = Finset.univ from View.set_whole _]

/-! ## The list's fetch -/

abbrev xPart (L : grid0.Coords) : Memref sig .scVector .hbm S25600 .i32 :=
  xV.slice (Rect.unit (s := S819200) (k0_off1 L) S25600.size (k0_off1_inb L)) (fun _ => rfl)

abbrev idxPts : sProp 𝕄 := xLoc d ↦{q} x

/-- The fetch under way. -/
def Fetching : sProp 𝕄 :=
  iprop(Transfers.Flight countersEmb (V d (cV L) (jV L)) (.dma cc0_scoped0.sem) default (sV).view.dmaCredit
        iprop(listPts d (cV L) (jV L) x (base L) fullShare Finset.univ ∗ (xLoc d ↦[(xPart L).view.set]{q} x))
      ∗ (xLoc d ↦[Finset.univ \ (xPart L).view.set]{q} x))

theorem wp_fetch {α : Type} {Q : α → sProp 𝕄} (hsrc : (xPart L).view.WordExact) (hdst : (sV).view.WordExact)
    (hsem : DmaTarget.Typed (nD := nD) (p := .scVector (cV L) (jV L)) .hbm (.dma cc0_scoped0.sem) (.here sV))
    (k : PUnit → Prog (TpuEff nD τ sig (Elt F) Λ₀ (.scVector (cV L) (jV L))) α) :
    iprop(anyOf d L cc0_scratch0 ∗ idxPts d x q ∗ cell0 d L cc0_scoped0.sem)
      ⊢ iprop((Fetching d L x q -∗ wp frame (wpE (defs₀ (F := F)) 𝒱₀ (V d (cV L) (jV L)) none) Set.univ (k ⟨⟩) Q)
        -∗ wp frame (wpE (defs₀ (F := F)) 𝒱₀ (V d (cV L) (jV L)) none) Set.univ
            (Prog.lift (.enqueueDma (xPart L) (.here sV) (.dma cc0_scoped0.sem) hsrc hdst hsem) >>= k) Q) := by
  iintro ⟨⟨%fs, Hs⟩, Hx, Hv⟩ Hk
  ihave Hx' := (pointsTo_split_subset (Finset.subset_univ (xPart L).view.set)).1 $$ Hx
  icases Hx' with ⟨Hx, Hrest⟩
  iapply (Transfers.wp_dmaLocal countersEmb 𝒱₀ (V d (cV L) (jV L)) none (default : HIx 1) (sV).view.dmaCredit
    (show (sV).view.amount (.dma cc0_scoped0.sem) = _ from rfl)
    (View.dmaCredit_pos _ (by decide)) (Finset.subset_univ _) (src := xPart L) (dst := sV) (k := k)) $$ [Hs Hx Hv]
  · isplitl [Hx]; · iexact Hx
    isplitl [Hs]; · iexact Hs
    iexact Hv
  iintro Hfl
  iapply Hk
  unfold Fetching
  isplitl [Hfl]
  · iapply (Transfers.Flight_mono countersEmb (V d (cV L) (jV L)) ?_) $$ Hfl
    iintro ⟨Hs, Hx⟩
    isplitl [Hs]
    · iapply (Entails.of_eq (pointsTo_congr (Val := Elt F) (U := UU) (ℓ := (sV).view.loc (V d (cV L) (jV L))) (I := Finset.univ) (q := fullShare)
        (f := View.write (Elt F) (sV).view fs ((xPart L).view.read (Elt F) x) Finset.univ) (g := listAt x (base L)) ?_)) $$ Hs
      intro j _
      refine (congrFun (View.write_whole_univ cc0_scratch0 fs _) j).trans ?_
      exact listAt_emb (k0_off1_eq L) (k0_off1_inb L) x j
    · iexact Hx
  · iexact Hrest

theorem wp_fetched {α : Type} {Q : α → sProp 𝕄} {O : CellTallies nD τ sig (HIx 1)} {W : Waits sig (HIx 1)}
    (hsrc : (xPart L).view.WordExact) (hdst : (sV).view.WordExact)
    (k : PUnit → Prog (TpuEff nD τ sig (Elt F) Λ₀ (.scVector (cV L) (jV L))) α) :
    iprop(Transfers.MayWaits (V d (cV L) (jV L)) (default : HIx 1) O ∗ Fetching d L x q ∗ Owe d (cV L) (jV L) O W)
      ⊢ iprop((iprop(listPts d (cV L) (jV L) x (base L) fullShare Finset.univ ∗ idxPts d x q ∗ cell0 d L cc0_scoped0.sem ∗ Owe d (cV L) (jV L) O W)
            -∗ wp frame (wpE (defs₀ (F := F)) 𝒱₀ (V d (cV L) (jV L)) none) Set.univ (k ⟨⟩) Q)
        -∗ wp frame (wpE (defs₀ (F := F)) 𝒱₀ (V d (cV L) (jV L)) none) Set.univ
            (Prog.lift (.waitDma2 cc0_scoped0.sem (xPart L) sV hsrc hdst) >>= k) Q) := by
  unfold Fetching
  iintro ⟨Hmw, ⟨Hfl, Hrest⟩, HO⟩ Hk
  iapply (wp_await d (cV L) (jV L) (O := O) (W := W) cc0_scoped0.sem (xPart L) sV hsrc hdst (sV).view.dmaCredit rfl k) $$ [Hmw Hfl HO]
  · isplitl [Hmw]; · iexact Hmw
    isplitl [Hfl]; · iexact Hfl
    iexact HO
  iintro ⟨⟨Hs, Hx⟩, Hv, HO⟩
  iapply Hk
  isplitl [Hs]; · iexact Hs
  isplitl [Hx Hrest]
  · iapply (pointsTo_split_subset (Finset.subset_univ (xPart L).view.set)).2
    isplitl [Hx] <;> iassumption
  isplitl [Hv] <;> iassumption

/-! ## The task -/

/-- The subcore's band of the gathered array. -/
abbrev bandPts (f : S819200x128.Idx → Elt F .f32) : sProp 𝕄 := outPts d (band (base L) (base L + 25600)) f

theorem halves {ℓ : Loc nD τ sig} {I : Finset (Idx ℓ)} {g : Buf (Elt F) ℓ} (q : PosShare TreeShare) :
    (ℓ ↦[I]{q} g : sProp 𝕄) ⊣⊢ iprop((ℓ ↦[I]{q.left} g) ∗ ℓ ↦[I]{q.right} g) := pointsTo_share (PosShare.mem_left_op_right q)

theorem draining_open (O : CellTallies nD τ sig (HIx 1)) (W : Waits sig (HIx 1)) (p : ℕ) :
    Draining d L x t f q O W p ⊢ iprop(Storing d (cV L) (jV L) x t o₀ aV bytes (base L + 256 * p)
      ∗ Storing d (cV L) (jV L) x t o₁ bV bytes (base L + (256 * p + 128)) ∗ cell0 d L g₀ ∗ cell0 d L g₁
      ∗ tabPts d t q.left ∗ tabPts d t q.right
      ∗ listPts d (cV L) (jV L) x (base L) fullShare.left Finset.univ ∗ listPts d (cV L) (jV L) x (base L) fullShare.right Finset.univ
      ∗ outPts d (band (base L) (base L + 256 * p)) (gathered x t) ∗ outPts d (band (base L + 256 * p + 256) (base L + 25600)) f
      ∗ Owe d (cV L) (jV L) O W) := by
  unfold Draining; exact .rfl

set_option maxHeartbeats 2000000 in
theorem tile_body (hF : (K (F := F)).Facts) (hx : ∀ j, (x j).toNat < 100000) (O : CellTallies nD τ sig (HIx 1)) (W : Waits sig (HIx 1)) (hO : ∀ g, O g none = 0) :
    iprop(levAts (K (F := F)).L (K (F := F)).lev ∗ emp
        ∗ (idxPts d x q ∗ tabPts d t q ∗ bandPts d L f)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_gather_k L xV (Memref.isWhole_whole _) tV (Memref.isWhole_whole _) oV (Memref.isWhole_whole _) sV (Memref.isWhole_whole _)
            aV (Memref.isWhole_whole _) bV (Memref.isWhole_whole _) cc0_scratch3 cc0_scratch4 cc0_scratch5 cc0_scratch6 cc0_scoped0)
          fun _ => iprop((idxPts d x q ∗ tabPts d t q ∗ bandPts d L (gathered x t))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_gather_k_eq_skeleton]; unfold cc0_gather_k_skel
  rw [(K (F := F)).scopedBufs_V hF d (cV L) (jV L), SparseCore.Cfg.scopedSems0_V (Val := Elt F) d (cV L) (jV L), sems_split, bufs_split]
  iintro ⟨#Hlv, -, ⟨Hx, Ht, Hout⟩, ⟨Hs, Ha, Hb, Hbufs⟩, ⟨Hg0, Hg1, Ho0, Ho1, Hv, Hsems⟩, HO⟩
  ihave #Hmw := (show levAts (K (F := F)).L (K (F := F)).lev ⊢ Transfers.MayWaits (V d (cV L) (jV L)) (default : HIx 1) O from
    (K (F := F)).mayWaits_none (thr := V d (cV L) (jV L)) hO) $$ Hlv
  ihave HO' : Owe d (cV L) (jV L) O W $$ [HO]
  · unfold Owe; iexists W; isplitr; · ipureintro; exact fun p hp => .inl hp
    iexact HO
  -- the list
  iapply (wp_fetch d L x q _ _ _ _) $$ [Hs Hx Hv]
  · isplitl [Hs]; · iexact Hs
    isplitl [Hx]; · iexact Hx
    iexact Hv
  iintro Hf
  iapply (wp_fetched d L x q (O := O) (W := W) _ _ _) $$ [Hf HO']
  · isplitr; · iexact Hmw
    isplitl [Hf]; · iexact Hf
    iexact HO'
  iintro ⟨Hs, Hx, Hv, HO⟩
  -- the first two gathers
  ihave Hs' := (halves fullShare).1 $$ Hs
  icases Hs' with ⟨Hs0, Hs1⟩
  ihave Ht' := (halves q).1 $$ Ht
  icases Ht' with ⟨Ht0, Ht1⟩
  ihave Ha' := (any_a d L).1 $$ Ha
  ihave Hb' := (any_b d L).1 $$ Hb
  iapply (wp_gather d (cV L) (jV L) x t (o := 256 * 0) rfl inb_S25600_S128_0 hx g₀ aV bytes gather_bytes_a q.left fullShare.left _ _) $$ [Ha' Ht0 Hs0 Hg0]
  · isplitl [Ha']; · iexact Ha'
    isplitl [Ht0]; · iexact Ht0
    isplitl [Hs0]; · iexact Hs0
    iexact Hg0
  iintro Hga
  iapply (wp_gather d (cV L) (jV L) x t (o := 256 * 0 + 128) rfl inb_S25600_S128_128 hx g₁ bV bytes gather_bytes_b q.right fullShare.right _ _) $$ [Hb' Ht1 Hs1 Hg1]
  · isplitl [Hb']; · iexact Hb'
    isplitl [Ht1]; · iexact Ht1
    isplitl [Hs1]; · iexact Hs1
    iexact Hg1
  iintro Hgb
  -- the loop
  ihave HI : iprop(Transfers.MayWaits (V d (cV L) (jV L)) (default : HIx 1) O ∗ Inv d L x t f q O W 0) $$ [Hga Hgb Ho0 Ho1 Hout HO]
  · isplitr; · iexact Hmw
    have h0 : Inv d L x t f q O W 0 = Filling d L x t f q O W 0 := if_pos (by decide)
    rw [h0]; unfold Filling
    isplitl [Hga]; · iexact Hga
    isplitl [Hgb]; · iexact Hgb
    isplitl [Ho0]; · iexact Ho0
    isplitl [Ho1]; · iexact Ho1
    isplitr
    · rw [Nat.mul_zero, Nat.add_zero, band_empty]; iapply (Entails.of_eq pointsTo_empty.symm); iempintro
    isplitl [Hout]; · rw [Nat.mul_zero, Nat.add_zero]; iexact Hout
    iexact HO
  iapply (Scf.wp_for_bind frame (wpE (defs₀ (F := F)) 𝒱₀ (V d (cV L) (jV L)) none) Set.univ _ _ _ _ _ _
    (fun p _ => iprop(Transfers.MayWaits (V d (cV L) (jV L)) (default : HIx 1) O ∗ Inv d L x t f q O W p)) (fun p u => trip d L x t f q O W hx p u)) $$ HI
  iintro %_ ⟨-, HI⟩
  have h1 : Inv d L x t f q O W k0_t1_loop.trips = Draining d L x t f q O W 99 := by
    unfold Inv
    exact if_neg (by rw [trips_eq]; decide)
  ihave HI' := ((Entails.of_eq h1).trans (draining_open d L x t f q O W 99)) $$ HI
  icases HI' with ⟨Hst0, Hst1, Hg0, Hg1, Ht0, Ht1, Hs0, Hs1, Hdone, Hnone, HO⟩
  iapply (wp_stored d (cV L) (jV L) x t (O := O) (W := W) o₀ aV (k0_off6_inb L) bytes (storing_bytes _) _ _ _) $$ [Hst0 HO]
  · isplitr; · iexact Hmw
    isplitl [Hst0]; · iexact Hst0
    iexact HO
  iintro ⟨Hout0, Ha, Ho0, HO⟩
  iapply (wp_stored d (cV L) (jV L) x t (O := O) (W := W) o₁ bV (k0_off6_inb L) bytes (storing_bytes _) _ _ _) $$ [Hst1 HO]
  · isplitr; · iexact Hmw
    isplitl [Hst1]; · iexact Hst1
    iexact HO
  iintro ⟨Hout1, Hb, Ho1, HO⟩
  sl_step
  isplitl [Hx Ht0 Ht1 Hdone Hout0 Hout1]
  · isplitl [Hx]; · iexact Hx
    isplitl [Ht0 Ht1]
    · iapply (halves q).2
      isplitl [Ht0] <;> iassumption
    iapply (out_join₃ d (gathered x t) (a₁ := base L + 256 * 99) (a₂ := base L + 256 * 99 + 128) (r₁ := base L + 256 * 99)
        (r₂ := base L + (256 * 99 + 128)) rfl (by omega) rfl (by omega) (by omega))
    isplitl [Hdone]; · iexact Hdone
    isplitl [Hout0] <;> iassumption
  isplitl [Hs0 Hs1 Ha Hb Hbufs]
  · isplitl [Hs0 Hs1]
    · iexists (listAt x (base L))
      iapply (halves fullShare).2
      isplitl [Hs0] <;> iassumption
    isplitl [Ha]; · iapply (any_a d L).2; iexact Ha
    isplitl [Hb]; · iapply (any_b d L).2; iexact Hb
    iexact Hbufs
  isplitl [Hg0 Hg1 Ho0 Ho1 Hv Hsems]
  · isplitl [Hg0]; · iexact Hg0
    isplitl [Hg1]; · iexact Hg1
    isplitl [Ho0]; · iexact Ho0
    isplitl [Ho1]; · iexact Ho1
    isplitl [Hv]; · iexact Hv
    iexact Hsems
  iapply (owe_open d (cV L) (jV L) O W) $$ HO

end Cert.Proof.Tile
-- ==== Proof.Sums.lean ====
/-
  The perceptron's whole grid: 8 batch blocks of 8 position blocks. At every point the staged inputs are the blocks of
  their arrays; the hidden sums before a point are those the point before left; the output's block is made at the last
  position block of each batch block, and there alone.
-/
module

public import proofs.«01_k».proof.Proof.Body
public import proofs.«01_k».proof.Proof.Tile
public import Idealize.ShloMosaic.Lib.WordCmp
public import Idealize.ShloMosaic.Lib.Pipeline.FrameBody

@[expose] public section

set_option maxRecDepth 16384

noncomputable section

namespace Cert.Proof.Mlp

open Cert.KernelIdeal Cert.KernelIdeal.Gen
open Cert.Proof.Tile (UU)

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation)

variable {F : FTy → Type} [FloatOps F]

local notation "𝕄" => MT nD τ sig (HIx 1) (Elt F) ℕ UU ℕ

/-! ### Where the points lie -/

theorem points : cfg1.N = 64 := N_1

theorem isFirst_iff : ∀ t : Fin cfg1.N, IsFirst (grid1.coords t) ↔ t.val % 8 = 0 :=
  (fun t => by
    have ht : t.val < 64 := Nat.lt_of_lt_of_eq t.isLt N_1
    have e1 : (grid1.coords t 1).val = t.val / 1 % 8 := Pipeline.Grid.coords_val t 1 (by decide) rfl
    simp only [IsFirst, e1]
    word_cmp
   : ∀ t : Fin grid1.N, IsFirst (grid1.coords t) ↔ t.val % 8 = 0)

theorem isLast_iff : ∀ t : Fin cfg1.N, IsLast (grid1.coords t) ↔ t.val % 8 = 7 :=
  (fun t => by
    have ht : t.val < 64 := Nat.lt_of_lt_of_eq t.isLt N_1
    have e1 : (grid1.coords t 1).val = t.val / 1 % 8 := Pipeline.Grid.coords_val t 1 (by decide) rfl
    simp only [IsLast, k1_cond2, e1]
    word_cmp
   : ∀ t : Fin grid1.N, IsLast (grid1.coords t) ↔ t.val % 8 = 7)

theorem idle_out : ∀ t : Fin cfg1.N, ¬IsLast (grid1.coords t) → cfg1.idle 5 (grid1.coords t) = true := by decide +kernel
theorem live_out : ∀ t : Fin cfg1.N, IsLast (grid1.coords t) → cfg1.idle 5 (grid1.coords t) = false := by decide +kernel

theorem noflush_out (t : Fin cfg1.N) (h : ¬IsLast (grid1.coords t)) : (cfg1.win 5).flush t = false :=
  Bool.eq_false_iff.mpr fun hf => h ((isLast_iff t).mpr ((flush1_5 t).mp hf))

/-! ### The contents at every point -/

variable (V : (c : Dev nD) → (b : Ref sig .tc) → Buf (Elt F) ((c : Thread nD τ).loc b))

/-- A window's block of its array as the region finds it. -/
def blockAt (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The hidden sums each point leaves. -/
def sums (c : Dev nD) : (n : ℕ) → n < cfg1.N → Vec F S512x32 .f32
  | 0, h => grown k1_pay1 (blockAt V c 0 ⟨0, h⟩) (blockAt V c 1 ⟨0, h⟩)
  | n + 1, h => grown (start (grid1.coords ⟨n + 1, h⟩) (sums c n (Nat.lt_of_succ_lt h))) (blockAt V c 0 ⟨n + 1, h⟩) (blockAt V c 1 ⟨n + 1, h⟩)

theorem sums_step (c : Dev nD) (t : Fin cfg1.N) (acc : Vec F S512x32 .f32)
    (h : ∀ hz : t.val ≠ 0, acc = sums V c (t.val - 1) (Nat.lt_of_le_of_lt (Nat.sub_le _ _) t.isLt)) :
    grown (start (grid1.coords t) acc) (blockAt V c 0 t) (blockAt V c 1 t) = sums V c t.val t.isLt := by
  obtain ⟨n, hn⟩ := t
  cases n with
  | zero =>
    have hf : IsFirst (grid1.coords ⟨0, hn⟩) := (isFirst_iff ⟨0, hn⟩).mpr rfl
    rw [start, if_pos hf]; rfl
  | succ n => rw [h (Nat.succ_ne_zero n)]; rfl

/-- The output's block each point would make of the sums it leaves. -/
def made (c : Dev nD) (t : Fin cfg1.N) : Vec F S512x1 .f32 :=
  k1_pay3 (sums V c t.val t.isLt) (blockAt V c 2 t) (blockAt V c 3 t) (blockAt V c 4 t)

/-- The scratch between points: the sums the point before left. -/
def between (c : Dev nD) (n : ℕ) (hn : n ≤ cfg1.N) : sProp 𝕄 :=
  iprop(∃ acc, ⌜∀ hz : n ≠ 0, acc = sums V c (n - 1) (by omega)⌝ ∗ owns (c : Thread nD τ) (Memref.whole cc1_scratch0) fullShare acc)

/-- The waits the core has recorded at most: those of its handshakes with the SparseCores. -/
def waited (c : Dev nD) : Set (SemLoc sig × HIx 1) :=
  {p | (Tile.K (F := F)).lev ((c : Thread nD τ), p.1) p.2 ≤ 8}

def dats (c : Dev nD) : Dat τ (Elt F) (HIx 1) ℕ UU ℕ cfg1 c where
  A w := V c (Pipeline.arrRef spec1 w)
  after w t := match w with
    | ⟨0, _⟩ => blockAt V c 0 t
    | ⟨1, _⟩ => blockAt V c 1 t
    | ⟨2, _⟩ => blockAt V c 2 t
    | ⟨3, _⟩ => blockAt V c 3 t
    | ⟨4, _⟩ => blockAt V c 4 t
    | ⟨5, _⟩ => made V c t
  Φ t := between V c t.val (Nat.le_of_lt_succ t.isLt)
  q _ := fullShare
  owed _ := 0
  recorded _ := waited (F := F) c

theorem dats_A (c : Dev nD) (w : Fin cfg1.W) : (dats V c).A w = V c (Pipeline.arrRef spec1 w) := by dsimp only [dats]

theorem between_start (c : Dev nD) (t : Fin cfg1.N) : (dats V c).Φ t.castSucc = between V c t.val (Nat.le_of_lt t.isLt) := by
  dsimp only [dats]; exact Pipeline.Dat.Φ_castSucc (between V c) t

theorem after_0 (c : Dev nD) (t : Fin cfg1.N) : (dats V c).after 0 t = blockAt V c 0 t := by dsimp only [dats]
theorem after_1 (c : Dev nD) (t : Fin cfg1.N) : (dats V c).after 1 t = blockAt V c 1 t := by dsimp only [dats]
theorem after_2 (c : Dev nD) (t : Fin cfg1.N) : (dats V c).after 2 t = blockAt V c 2 t := by dsimp only [dats]
theorem after_3 (c : Dev nD) (t : Fin cfg1.N) : (dats V c).after 3 t = blockAt V c 3 t := by dsimp only [dats]
theorem after_4 (c : Dev nD) (t : Fin cfg1.N) : (dats V c).after 4 t = blockAt V c 4 t := by dsimp only [dats]
theorem after_5 (c : Dev nD) (t : Fin cfg1.N) : (dats V c).after 5 t = made V c t := by dsimp only [dats]

/-- An input's buffer holds its block at every point, fetched there or at an earlier point of the same block. -/
theorem before_0 (c : Dev nD) (t : Fin cfg1.N) (d) : (dats V c).before 0 t d = blockAt V c 0 t :=
  ((dats V c).before_in_eq_fetched 0 rfl (fun _ => rfl) (fun _ _ _ => rfl)
    (fun t => by rw [after_0]; unfold Dat.blockOf blockAt; rw [dats_A]; try rfl) t d).trans
    (by unfold Dat.fetched Dat.blockOf blockAt; rw [dats_A]; try rfl)
theorem before_1 (c : Dev nD) (t : Fin cfg1.N) (d) : (dats V c).before 1 t d = blockAt V c 1 t :=
  ((dats V c).before_in_eq_fetched 1 rfl (fun _ => rfl) (fun _ _ _ => rfl)
    (fun t => by rw [after_1]; unfold Dat.blockOf blockAt; rw [dats_A]; try rfl) t d).trans
    (by unfold Dat.fetched Dat.blockOf blockAt; rw [dats_A]; try rfl)
theorem before_2 (c : Dev nD) (t : Fin cfg1.N) (d) : (dats V c).before 2 t d = blockAt V c 2 t :=
  ((dats V c).before_in_eq_fetched 2 rfl (fun _ => rfl) (fun _ _ _ => rfl)
    (fun t => by rw [after_2]; unfold Dat.blockOf blockAt; rw [dats_A]; try rfl) t d).trans
    (by unfold Dat.fetched Dat.blockOf blockAt; rw [dats_A]; try rfl)
theorem before_3 (c : Dev nD) (t : Fin cfg1.N) (d) : (dats V c).before 3 t d = blockAt V c 3 t :=
  ((dats V c).before_in_eq_fetched 3 rfl (fun _ => rfl) (fun _ _ _ => rfl)
    (fun t => by rw [after_3]; unfold Dat.blockOf blockAt; rw [dats_A]; try rfl) t d).trans
    (by unfold Dat.fetched Dat.blockOf blockAt; rw [dats_A]; try rfl)
theorem before_4 (c : Dev nD) (t : Fin cfg1.N) (d) : (dats V c).before 4 t d = blockAt V c 4 t :=
  ((dats V c).before_in_eq_fetched 4 rfl (fun _ => rfl) (fun _ _ _ => rfl)
    (fun t => by rw [after_4]; unfold Dat.blockOf blockAt; rw [dats_A]; try rfl) t d).trans
    (by unfold Dat.fetched Dat.blockOf blockAt; rw [dats_A]; try rfl)

/-- What a point leaves in an input's buffer is that block, and in the output's: what it made there if it is the last
    of its batch block, else whatever was there. -/
theorem leaves_in (c : Dev nD) (w : Fin cfg1.W) (t : Fin cfg1.N) (hl : cfg1.idle w (cfg1.grid.coords t) = false) :
    (dats V c).leavesExact w t = owns (c : Thread nD τ) ((cfg1.win w).stage (cfg1.slots t w)) fullShare ((dats V c).after w t) := by
  unfold Dat.leavesExact; rw [hl]

theorem leaves_out (c : Dev nD) (t : Fin cfg1.N) (d : _) :
    owns (c : Thread nD τ) (st1_5 t) fullShare (left (grid1.coords t) (sums V c t.val t.isLt) (blockAt V c 2 t) (blockAt V c 3 t) (blockAt V c 4 t)
        ((dats V c).before 5 t d))
      ⊢ ((dats V c).leavesExact 5 t : sProp 𝕄) := by
  by_cases hl : IsLast (grid1.coords t)
  · rw [leaves_in V c 5 t (live_out t hl), after_5, left, if_pos hl]; exact .rfl
  · rw [Dat.leavesExact_idle (dats V c) 5 t (idle_out t hl) (noflush_out t hl), left, if_neg hl]
    iintro H; iexists d; iexact H

/-! ### The body at every point -/

def holds (c : Dev nD) (t : Fin cfg1.N) : sProp 𝕄 :=
  iprop((dats V c).Φ t.castSucc ∗ (dats V c).owesAt none t.castSucc
    ∗ (∃ d, owns (c : Thread nD τ) (st1_0 t) fullShare ((dats V c).before 0 t d))
    ∗ (∃ d, owns (c : Thread nD τ) (st1_1 t) fullShare ((dats V c).before 1 t d))
    ∗ (∃ d, owns (c : Thread nD τ) (st1_2 t) fullShare ((dats V c).before 2 t d))
    ∗ (∃ d, owns (c : Thread nD τ) (st1_3 t) fullShare ((dats V c).before 3 t d))
    ∗ (∃ d, owns (c : Thread nD τ) (st1_4 t) fullShare ((dats V c).before 4 t d))
    ∗ (∃ d, owns (c : Thread nD τ) (st1_5 t) fullShare ((dats V c).before 5 t d)))

def handsBack (c : Dev nD) (t : Fin cfg1.N) : sProp 𝕄 :=
  iprop((dats V c).Φ t.succ ∗ (dats V c).owesAt none t.succ
    ∗ (dats V c).leavesExact 0 t ∗ (dats V c).leavesExact 1 t ∗ (dats V c).leavesExact 2 t
    ∗ (dats V c).leavesExact 3 t ∗ (dats V c).leavesExact 4 t ∗ (dats V c).leavesExact 5 t)

theorem point_runs (c : Dev nD) (t : Fin cfg1.N) :
    holds V c t ⊢ wp frame (wpE (defs₀ (F := F)) Variants.none c none) Set.univ (bodyAt1 t) (fun _ => handsBack V c t) := by
  unfold holds handsBack bodyAt1
  simp only [before_0, before_1, before_2, before_3, before_4]
  rw [show (dats V c).owesAt none t.succ = (dats V c).owesAt none t.castSucc from rfl,
    show (dats V c).Φ t.succ = between V c (t.val + 1) t.isLt from rfl, between_start,
    leaves_in V c 0 t rfl, leaves_in V c 1 t rfl, leaves_in V c 2 t rfl, leaves_in V c 3 t rfl, leaves_in V c 4 t rfl,
    after_0, after_1, after_2, after_3, after_4]
  unfold between
  iintro ⟨⟨%acc, %hacc, HS⟩, Ho, ⟨%d0, H0⟩, ⟨%d1, H1⟩, ⟨%d2, H2⟩, ⟨%d3, H3⟩, ⟨%d4, H4⟩, ⟨%d5, H5⟩⟩
  have hs := sums_step V c t acc hacc
  iapply (body_runs c (grid1.coords t) _ _ _ _ _ _ _ _ _ _ _ _ _ _ (blockAt V c 0 t) (blockAt V c 1 t) (blockAt V c 2 t)
    (blockAt V c 3 t) (blockAt V c 4 t) ((dats V c).before 5 t d5) acc)
  unfold held
  rw [hs]
  isplitl [H0 H1 H2 H3 H4 H5 HS]
  · isplitl [H0]; · iexact H0
    isplitl [H1]; · iexact H1
    isplitl [H2]; · iexact H2
    isplitl [H3]; · iexact H3
    isplitl [H4]; · iexact H4
    isplitl [H5]; · iexact H5
    iexact HS
  iintro ⟨H0, H1, H2, H3, H4, H5, HS⟩
  isplitl [HS]
  · iexists _; isplitr
    swap; · iexact HS
    ipureintro; intro _; rfl
  isplitl [Ho]; · iexact Ho
  isplitl [H0]; · iexact H0
  isplitl [H1]; · iexact H1
  isplitl [H2]; · iexact H2
  isplitl [H3]; · iexact H3
  isplitl [H4]; · iexact H4
  iapply (leaves_out V c t d5)
  iexact H5

theorem row_eq (t : Fin cfg1.N) : defs₀ (F := F) .tc cfg1.body (cfg1.bodyArgs t (cfg1.slots t)) = bodyAt1 t := by
  rfl

theorem body_obligation (c : Dev nD) : BodyObligation (dats V c) (defs₀ (F := F)) Variants.none none Set.univ := fun t => by
  rw [bigSep_W1, bigSep_W1, row_eq]
  exact triple_restated (point_runs V c t) rfl .rfl fun _ => .rfl

end Cert.Proof.Mlp

end
-- ==== Proof.Region.lean ====
/-
  The perceptron's call: entered with its six arrays whole, it leaves the five it reads as they were and the result at
  what the points made of it.
-/
module

public import proofs.«01_k».proof.Proof.Sums
public import Idealize.ShloMosaic.Lib.Pipeline.Regions
public import Idealize.ShloMosaic.Lib.Pipeline.RegionArrays

@[expose] public section

set_option maxRecDepth 16384

noncomputable section

namespace Cert.Proof.Mlp

open Cert.KernelIdeal Cert.KernelIdeal.Gen
open Cert.Proof.Tile (UU UH UP)

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window)

variable {F : FTy → Type} [FloatOps F]

local notation "𝕄" => MT nD τ sig (HIx 1) (Elt F) ℕ UU ℕ

variable (V : (c : Dev nD) → (b : Ref sig .tc) → Buf (Elt F) ((c : Thread nD τ).loc b))

abbrev adm : (p : Fin 1) → (pcfgs (F := F) p).Adm := fun p => (cfgs p).toPCfg_adm
abbrev pdats : (p : Fin 1) → (c : Dev nD) → Dat τ (Elt F) (HIx 1) ℕ UU ℕ (Pipeline.pin pcfgs (adm (F := F)) p) c := fun _ c => dats V c

/-- The call's contents: the six arrays, the result at what the points made of it. -/
def result (c : Dev nD) : S4096x1.Idx → Elt F .f32 := (dats V c).arrAt 5 cfg1.N

/-- The core's debts at the call's two ends: none, and its waits those of its handshakes. -/
abbrev debts (c : Dev nD) : sProp 𝕄 := Pipeline.owesWithin c 0 (waited (F := F) c)

theorem scratch_eq (c : Dev nD) :
    (Pipeline.scopedRest spec1 c : sProp 𝕄) = iprop(∃ f, owns (c : Thread nD τ) (Memref.whole cc1_scratch0) fullShare f) := by
  rw [scopedRest1_eq]; simp only [owns_whole]

theorem enters (c : Dev nD) : (Pipeline.scopedRest spec1 c : sProp 𝕄) ⊢ (dats V c).Φ 0 := by
  rw [scratch_eq, show (dats V c).Φ 0 = between V c 0 (Nat.zero_le _) from rfl]
  unfold between
  iintro ⟨%f, H⟩
  iexists f; isplitr
  · ipureintro; exact fun h => absurd rfl h
  iexact H

theorem leaves_scratch (c : Dev nD) : (dats V c).Φ (Fin.last cfg1.N) ⊢ (Pipeline.scopedRest spec1 c : sProp 𝕄) := by
  rw [scratch_eq, show (dats V c).Φ (Fin.last cfg1.N) = between V c cfg1.N (Nat.le_refl _) from rfl]
  unfold between
  iintro ⟨%f, -, H⟩
  iexists f; iexact H

theorem bound_sub (c : Dev nD) (t : Fin (cfg1.N + 1)) : (dats V c).bound none t ⊆ waited (F := F) c := by
  rintro p (hp | ⟨w, s, rfl⟩)
  · exact hp
  · exact Nat.zero_le _

def call : Pipeline.RegionSeg pcfgs (adm (F := F)) (pdats V) none defs₀ Variants.none (Tile.K (F := F)).L (Tile.K (F := F)).lev 0 where
  win := winFacts1.to₀
  block_pos := block_pos1
  stage_whole := stage_whole1
  K := PEmpty
  osem := fun k => k.elim
  ho := Pipeline.OwnSemFacts.none _
  hbody c := (body_obligation V c).loose
  hwaits := Pipeline.hwaits_of_owed_zero pcfgs (adm (F := F)) (pdats V) none _ _ 0 fun _ _ => rfl
  pre c := iprop((dats V c).arrays ((dats V c).arrAt · 0) ∗ debts c)
  post c := iprop((dats V c).arrays ((dats V c).arrAt · cfg1.N) ∗ debts c)
  X _ := iprop(emp)
  Y _ := iprop(emp)
  Z _ := iprop(emp)
  hentry c := by
    rw [Pipeline.ownSems0_none, Pipeline.prefHeld_of_none _ rfl]
    iintro ⟨⟨Ha, HO⟩, -, -⟩
    imodintro
    isplitl [Ha]; · iexact Ha
    isplitr; · iempintro
    isplitl [HO]
    · iapply (Pipeline.owesWithin_mono c 0 (show waited (F := F) c ⊆ (dats V c).bound none 0 from fun _ h => Or.inl h))
      iexact HO
    isplitr <;> iempintro
  hin c := (show _ ⊢ Pipeline.scopedRest spec1 c from by iintro ⟨-, -, H⟩; iexact H).trans (enters V c)
  hout c := (leaves_scratch V c).trans (by
    rw [Pipeline.ownSems0_none]
    iintro H
    isplitr; · iempintro
    isplitr; · iempintro
    iexact H)
  hexit c := by
    iintro ⟨Ha, HO, -, -⟩
    imodintro
    isplitl [Ha]; · iexact Ha
    iapply (Pipeline.owesWithin_mono c 0 (bound_sub V c (Fin.last _)))
    iexact HO

abbrev ptsOf (c : Dev nD) (b : Ref sig .tc) (f : Buf (Elt F) ((c : Thread nD τ).loc b)) : sProp 𝕄 := ((c : Thread nD τ).loc b) ↦{fullShare} f

/-- The six arrays whole. -/
theorem arrays_whole (c : Dev nD) (n : ℕ) :
    ((dats V c).arrays ((dats V c).arrAt · n) : sProp 𝕄)
      = iprop(ptsOf c main_v3 (V c main_v3) ∗ ptsOf c main_v4 (V c main_v4) ∗ ptsOf c main_v5 (V c main_v5) ∗ ptsOf c main_v6 (V c main_v6)
          ∗ ptsOf c main_v7 (V c main_v7) ∗ ptsOf c main_v8 ((dats V c).arrAt 5 n)) := by
  rw [show ((dats V c).arrays ((dats V c).arrAt · n) : sProp 𝕄)
      = bigSep Finset.univ fun w => (((c.tc : Thread nD τ).loc (Pipeline.arrRef spec1 w)) ↦{fullShare} (dats V c).arrAt w n : sProp 𝕄) from by
    unfold Dat.arrays
    exact bigSep_congr fun w _ => by
      rw [(arr_whole1 w).set_eq_univ, show (dats V c).share w = fullShare from by unfold Dat.share; split <;> rfl]]
  rw [bigSep_W1, (dats V c).arrAt_in 0 rfl n, (dats V c).arrAt_in 1 rfl n, (dats V c).arrAt_in 2 rfl n, (dats V c).arrAt_in 3 rfl n,
    (dats V c).arrAt_in 4 rfl n, dats_A, dats_A, dats_A, dats_A, dats_A]

/-- The pipeline's ghost state on one core. -/
abbrev EP : Emb (URounds (GSem nD τ sig) Unit) (MT nD τ sig (HIx 1) (Elt F) ℕ UU ℕ) := Emb.inl.trans embR

abbrev tickets (c : Dev nD) : sProp 𝕄 :=
  iprop(Pipeline.cellsGhost (Pipeline.pin pcfgs (adm (F := F))) (EP (F := F)) 0 c ∗ Pipeline.toksInit (Pipeline.pin pcfgs (adm (F := F))) (EP (F := F)) 0 c)

theorem call_runs [∀ e, Nonempty (Elt F e)] (c : Dev nD) (Q : PUnit → sProp 𝕄) :
    iprop((iprop(boundary (c : Thread nD τ) ∗ (ptsOf c main_v3 (V c main_v3) ∗ ptsOf c main_v4 (V c main_v4) ∗ ptsOf c main_v5 (V c main_v5)
            ∗ ptsOf c main_v6 (V c main_v6) ∗ ptsOf c main_v7 (V c main_v7) ∗ ptsOf c main_v8 (result V c)) ∗ debts c) -∗ Q ⟨⟩)
        ∗ boundary (c : Thread nD τ)
        ∗ (ptsOf c main_v3 (V c main_v3) ∗ ptsOf c main_v4 (V c main_v4) ∗ ptsOf c main_v5 (V c main_v5)
            ∗ ptsOf c main_v6 (V c main_v6) ∗ ptsOf c main_v7 (V c main_v7) ∗ ptsOf c main_v8 (V c main_v8))
        ∗ debts c ∗ levAts (Tile.K (F := F)).L (Tile.K (F := F)).lev ∗ tickets c)
      ⊢ wp frame (wpE (Tile.D (F := F)) Tile.𝒱 (c : Thread nD τ) none) Set.univ (.op (.customCall (Pipeline.entry 0) ()) fun _ => .ret ⟨⟩) Q := by
  have h0 := arrays_whole V c 0
  have hN := arrays_whole V c cfg1.N
  rw [show (dats V c).arrAt 5 0 = V c main_v8 from rfl] at h0
  rw [show (dats V c).arrAt 5 cfg1.N = result V c from rfl] at hN
  rw [← h0, ← hN]
  iintro ⟨Hk, Hb, Ha, HO, HL, Hc, Ht⟩
  iapply (Pipeline.RegionSeg.wp pcfgs (adm (F := F)) (pdats V) none cellOf_inj (EP (F := F)) defs₀ Variants.none _ _ (call V) c none
    (fun u hu => nomatch hu) (fun _ => .ret ⟨⟩) Q)
  isplitl [Hk]
  · iintro ⟨Hb, H⟩
    icases (show (call V).post c ⊢ iprop((dats V c).arrays ((dats V c).arrAt · cfg1.N) ∗ debts c) from .rfl) $$ H with ⟨Ha, HO⟩
    rw [wp_ret]
    iapply fupd_intro
    iapply Hk
    isplitl [Hb]; · iexact Hb
    isplitl [Ha]; · iexact Ha
    iexact HO
  isplitl [Hb]; · iexact Hb
  isplitl [Ha HO]
  · iapply (show iprop((dats V c).arrays ((dats V c).arrAt · 0) ∗ debts c) ⊢ (call V).pre c from .rfl)
    isplitl [Ha]; · iexact Ha
    iexact HO
  isplitl [HL]; · iexact HL
  isplitl [Hc]; · iexact Hc
  iexact Ht

end Cert.Proof.Mlp

end
-- ==== Proof.Tasks.lean ====
/-
  The 32 tasks of the SparseCore call as the launch wants them: what the call hands each SparseCore and each subcore and
  what they hand back, every subcore's task at its own place, and the dealing out of the list, the table and the array.
-/
module

public import proofs.«01_k».proof.Proof.Tile

@[expose] public section

set_option maxRecDepth 16384

noncomputable section

namespace Cert.Proof.Tile

open Cert.KernelIdeal Cert.KernelIdeal.Gen
open Cert.Proof.Rows

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ShareLeaves

variable {F : FTy → Type}

local notation "𝕄" => MT nD τ sig (HIx 1) (Elt F) ℕ UU ℕ

theorem subs_eq : (K (F := F)).nSub 0 = 16 := rfl
theorem cores_eq : (K (F := F)).nCore 0 = 2 := rfl

/-- The number of the task on subcore `i` of SparseCore `c`. -/
def num (c : Fin 2) (i : Fin 16) : Fin (2 ^ 5) := ⟨2 * i.val + c.val, by omega⟩

variable (X : Dev nD → S819200.Idx → Elt F .i32) (E : Dev nD → S100000x128.Idx → Elt F .f32) (B : Dev nD → S819200x128.Idx → Elt F .f32)

/-- Task `w`'s part: a read share of the list and of the table, its own 25600 rows of the array. -/
abbrev part (d : Dev nD) (f : S819200x128.Idx → Elt F .f32) (w : Fin (2 ^ 5)) : sProp 𝕄 :=
  iprop((xLoc d ↦{leaf 5 fullShare w} X d) ∗ tabPts d (E d) (leaf 5 fullShare w) ∗ outPts d (band (25600 * w.val) (25600 * w.val + 25600)) f)

def rowsOf (d : Dev nD) : S819200x128.Idx → Elt F .f32 := gathered (X d) (E d)

/-- What the call carries out and back. -/
def P : (K (F := F)).Pay (nD := nD) (Val := Elt F) (Name := ℕ) (U := UU) where
  st := fun q d c => match q with | 0 => bigSep Finset.univ fun i : Fin 16 => part X E d (B d) (num (Fin.cast cores_eq c) i)
  dn := fun q d c => match q with | 0 => bigSep Finset.univ fun i : Fin 16 => part X E d (rowsOf X E d) (num (Fin.cast cores_eq c) i)
  go := fun q d c i => match q with | 0 => part X E d (B d) (num (Fin.cast cores_eq c) (Fin.cast subs_eq i))
  td := fun q d c i => match q with | 0 => part X E d (rowsOf X E d) (num (Fin.cast cores_eq c) (Fin.cast subs_eq i))
  x := fun _ _ => iprop(emp)

instance P_storable : (P X E B).IsStorable where
  st q d c := match q with
    | 0 => (inferInstance : BI.Storable (upEmb : UEmb _ 𝕄) (bigSep Finset.univ fun i : Fin 16 => part X E d (B d) (num (Fin.cast cores_eq c) i)))
  dn q d c := match q with
    | 0 => (inferInstance : BI.Storable (upEmb : UEmb _ 𝕄) (bigSep Finset.univ fun i : Fin 16 => part X E d (rowsOf X E d) (num (Fin.cast cores_eq c) i)))
  go q d c i := match q with
    | 0 => (inferInstance : BI.Storable (upEmb : UEmb _ 𝕄) (part X E d (B d) (num (Fin.cast cores_eq c) (Fin.cast subs_eq i))))
  td q d c i := match q with
    | 0 => (inferInstance : BI.Storable (upEmb : UEmb _ 𝕄) (part X E d (rowsOf X E d) (num (Fin.cast cores_eq c) (Fin.cast subs_eq i))))

variable [FloatOps F]

/-! ## Each task at its place -/

def place (c : Fin (grid0.bound 0)) (s : Fin (grid0.bound 1)) : grid0.Coords :=
  fun | 0 => c | 1 => s | ⟨_ + 2, h⟩ => absurd h (Nat.not_lt.2 (Nat.le_add_left _ _))

theorem task_eq (c : Fin τ.nSC) (s : Fin τ.nSub) :
    defs₀ (F := F) (.scVector c s) 0 ()
      = SparseCore.onTile hcore0 hsub0 (fun c s => cc0_gather_k (place c s) xV (Memref.isWhole_whole _) tV (Memref.isWhole_whole _)
          oV (Memref.isWhole_whole _) sV (Memref.isWhole_whole _) aV (Memref.isWhole_whole _) bV (Memref.isWhole_whole _)
          cc0_scratch3 cc0_scratch4 cc0_scratch5 cc0_scratch6 cc0_scoped0) ⟨⟩ c s := rfl

/-- The task's own part is the part its number names. -/
theorem part_at (d : Dev nD) (f : S819200x128.Idx → Elt F .f32) (L : grid0.Coords) (w : Fin (2 ^ 5)) (h : w.val = 2 * (L 1).val + (L 0).val) :
    iprop(idxPts d (X d) (leaf 5 fullShare w) ∗ tabPts d (E d) (leaf 5 fullShare w) ∗ bandPts d L f) = part X E d f w := by
  unfold bandPts part idxPts
  rw [show base L = 25600 * w.val by unfold base; omega]

theorem task_runs (hX : ∀ d j, (X d j).toNat < 100000) (d : Dev nD) (L : grid0.Coords) (w : Fin (2 ^ 5)) (h : w.val = 2 * (L 1).val + (L 0).val)
    (O : CellTallies nD τ sig (HIx 1)) (W : Waits sig (HIx 1)) (hO : ∀ g, O g none = 0) :
    iprop(levAts (K (F := F)).L (K (F := F)).lev ∗ emp ∗ part X E d (B d) w
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_gather_k L xV (Memref.isWhole_whole _) tV (Memref.isWhole_whole _) oV (Memref.isWhole_whole _) sV (Memref.isWhole_whole _)
            aV (Memref.isWhole_whole _) bV (Memref.isWhole_whole _) cc0_scratch3 cc0_scratch4 cc0_scratch5 cc0_scratch6 cc0_scoped0)
          fun _ => iprop(part X E d (rowsOf X E d) w
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  have H := tile_body d L (X d) (E d) (B d) (leaf 5 fullShare w) facts (hX d) O W hO
  rw [part_at X E d (B d) L w h] at H
  refine H.trans (wp_mono frame _ _ fun _ => ?_)
  rw [show gathered (X d) (E d) = rowsOf X E d from rfl, part_at X E d (rowsOf X E d) L w h]
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hX : ∀ d j, (X d j).toNat < 100000) : (K (F := F)).TileObl (D (F := F)) 𝒱 (P X E B) v₀ 0 := by
  intro d c i O W hO _ _
  simp only [show (P X E B).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [task_eq]; simp only [SparseCore.onTile, hci, and_self, ↓reduceDIte]
  exact task_runs X E B hX d (place ⟨_, hci.1⟩ ⟨_, hci.2⟩) (num (Fin.cast cores_eq c) (Fin.cast subs_eq i)) rfl O W hO

/-- A SparseCore's part is its sixteen tasks'. -/
theorem vecSplit : (K (F := F)).VecSplit' (P X E B) 0 := by
  intro d c
  have h (f : S819200x128.Idx → Elt F .f32) :
      (bigSep Finset.univ fun i : Fin ((K (F := F)).nSub 0) => part X E d f (num (Fin.cast cores_eq c) (Fin.cast subs_eq i)))
        = bigSep Finset.univ fun i : Fin 16 => part X E d f (num (Fin.cast cores_eq c) i) :=
    bigSep_congr fun _ _ => congrArg (fun i => part X E d f (num (Fin.cast cores_eq c) i)) (Fin.ext rfl)
  change (bigSep Finset.univ fun i : Fin 16 => part X E d (B d) (num (Fin.cast cores_eq c) i)) ⊢ |={Set.univ}=> iprop(
      (bigSep Finset.univ fun i : Fin ((K (F := F)).nSub 0) => part X E d (B d) (num (Fin.cast cores_eq c) (Fin.cast subs_eq i)))
      ∗ ((bigSep Finset.univ fun i : Fin ((K (F := F)).nSub 0) => part X E d (rowsOf X E d) (num (Fin.cast cores_eq c) (Fin.cast subs_eq i)))
          -∗ bigSep Finset.univ fun i : Fin 16 => part X E d (rowsOf X E d) (num (Fin.cast cores_eq c) i)))
  rw [h, h]
  iintro H; imodintro
  isplitl [H]; · iexact H
  iintro H; iexact H

/-! ## The dealing out -/

/-- SparseCores and subcores together count the tasks. -/
def numEquiv : Fin 2 × Fin 16 ≃ Fin (2 ^ 5) where
  toFun p := num p.1 p.2
  invFun w := (⟨w.val % 2, by omega⟩, ⟨w.val / 2, by omega⟩)
  left_inv p := by
    rcases p with ⟨c, i⟩
    refine Prod.ext (Fin.ext ?_) (Fin.ext ?_) <;> simp only [num] <;> omega
  right_inv w := Fin.ext (by simp only [num]; omega)

theorem bands_disjoint (i j : Fin (2 ^ 5)) (h : i ≠ j) :
    Disjoint (band (25600 * i.val) (25600 * i.val + 25600)) (band (25600 * j.val) (25600 * j.val + 25600)) := by
  rcases Nat.lt_or_gt_of_ne (fun e => h (Fin.ext e)) with h | h
  · exact band_disjoint (by omega)
  · exact (band_disjoint (by omega)).symm

theorem bands_cover : (Finset.univ : Finset (Fin (2 ^ 5))).biUnion (fun w => band (25600 * w.val) (25600 * w.val + 25600)) = Finset.univ := by
  refine Finset.eq_univ_iff_forall.mpr fun j => Finset.mem_biUnion.mpr ?_
  have hj : (j 0).val < 819200 := (j 0).isLt
  refine ⟨⟨(j 0).val / 25600, by omega⟩, Finset.mem_univ _, mem_band.mpr ⟨?_, ?_⟩⟩ <;> simp only <;> omega

/-- The three arrays whole are the 32 parts. -/
theorem parts_eq (d : Dev nD) (f : S819200x128.Idx → Elt F .f32) :
    iprop((xLoc d ↦{fullShare} X d) ∗ tabPts d (E d) fullShare ∗ outPts d Finset.univ f)
      = bigSep Finset.univ fun c : Fin 2 => bigSep Finset.univ fun i : Fin 16 => part X E d f (num c i) := by
  rw [← bigSep_univ_prod (fun p : Fin 2 × Fin 16 => part X E d f (num p.1 p.2)),
    show (bigSep Finset.univ fun p : Fin 2 × Fin 16 => part X E d f (num p.1 p.2)) = bigSep Finset.univ fun w : Fin (2 ^ 5) => part X E d f w from
      (bigSep_univ_equiv numEquiv (fun w : Fin (2 ^ 5) => part X E d f w)).symm]
  unfold part
  rw [bigSep_sep', bigSep_sep']
  congr 1
  · exact pointsTo_leaves _ _ 5 _
  congr 1
  · exact pointsTo_leaves _ _ 5 _
  · unfold outPts
    rw [← pointsTo_biUnion Finset.univ (ℓ := oLoc d) (fun w : Fin (2 ^ 5) => band (25600 * w.val) (25600 * w.val + 25600))
      (fun i _ j _ h => bands_disjoint i j h), bands_cover]

theorem st_eq (d : Dev nD) : (bigSep Finset.univ fun c : Fin ((K (F := F)).nCore 0) => (P X E B).st 0 d c)
    = iprop((xLoc d ↦{fullShare} X d) ∗ tabPts d (E d) fullShare ∗ outPts d Finset.univ (B d)) := by
  rw [parts_eq]
  exact bigSep_congr fun c _ => congrArg (fun c => bigSep Finset.univ fun i : Fin 16 => part X E d (B d) (num c i)) (Fin.ext rfl)

theorem dn_eq (d : Dev nD) : (bigSep Finset.univ fun c : Fin ((K (F := F)).nCore 0) => (P X E B).dn 0 d c)
    = iprop((xLoc d ↦{fullShare} X d) ∗ tabPts d (E d) fullShare ∗ outPts d Finset.univ (rowsOf X E d)) := by
  rw [parts_eq]
  exact bigSep_congr fun c _ => congrArg (fun c => bigSep Finset.univ fun i : Fin 16 => part X E d (rowsOf X E d) (num c i)) (Fin.ext rfl)

end Cert.Proof.Tile
-- ==== Proof.Main.lean ====
/-
  The program's run: the host operations, the SparseCore call and the perceptron's call in order, each from the arrays the
  one before left, and what the launch deals out for them.
-/
module

public import proofs.«01_k».proof.Proof.Region
public import proofs.«01_k».proof.Proof.Tasks
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.Frame

@[expose] public section

set_option maxRecDepth 16384

noncomputable section

namespace Cert.Proof.Launch

open Cert.KernelIdeal Cert.KernelIdeal.Gen
open Cert.Proof.Tile (UU UH UP K D 𝒱 v₀ facts tileObl vecSplit xLoc tLoc oLoc tabPts outPts rowsOf)
open Cert.Proof.Mlp (ptsOf result tickets debts waited call_runs adm)

open Idealize.ShloMosaic Idealize.ShloMosaic.TcCoe
open Idealize.ShloMosaic.StableHlo (held launchContents)
open Idealize.ShloMosaic.Pipeline (ucRefs)
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The host operations -/

abbrev opTurn : HloOp τ sig (Elt F) :=
  StableHlo.unary main_arg0 main_v0 ((transpose S200x4096 [1, 0] · transposes_S4096x200_S200x4096_1_0) : (⟨S4096x200, .i32⟩ : BufTy).Contents (Elt F) → (⟨S200x4096, .i32⟩ : BufTy).Contents (Elt F))
abbrev opList : HloOp τ sig (Elt F) := StableHlo.reshape main_v0 main_v1 (rfl : (.i32 : EltTy) = .i32) shapeCasts_S200x4096_S819200
abbrev opRows : HloOp τ sig (Elt F) := StableHlo.reshape main_v2 main_v3 (rfl : (.f32 : EltTy) = .f32) shapeCasts_S819200x128_S200x4096x128
abbrev opW1 : HloOp τ sig (Elt F) := StableHlo.reshape main_arg2 main_v4 (rfl : (.f32 : EltTy) = .f32) shapeCasts_S25600x32_S200x128x32
abbrev opB1 : HloOp τ sig (Elt F) := StableHlo.reshape main_arg3 main_v5 (rfl : (.f32 : EltTy) = .f32) shapeCasts_S32_S1x32
abbrev opW2 : HloOp τ sig (Elt F) := StableHlo.reshape main_arg4 main_v6 (rfl : (.f32 : EltTy) = .f32) shapeCasts_S32x1_S1x32
abbrev opB2 : HloOp τ sig (Elt F) := StableHlo.reshape main_arg5 main_v7 (rfl : (.f32 : EltTy) = .f32) shapeCasts_S1_S1x1

variable (m : (ℓ : Loc nD τ sig) → Buf (Elt F) ℓ) (ρ : Dev nD → PrngReg)

abbrev r (b : Ref sig .tc) : DevRef τ sig := Proc.devRef .tc b

/-- Before the SparseCore call. -/
def listed (d : Dev nD) : Valuation τ sig (Elt F) := opList.result (opTurn.result (launchContents m d))

/-- The list, the table, and what the array held. -/
def X (d : Dev nD) : S819200.Idx → Elt F .i32 := listed m d (r main_v1)
def E (d : Dev nD) : S100000x128.Idx → Elt F .f32 := m (tLoc d)
def B (d : Dev nD) : S819200x128.Idx → Elt F .f32 := m (oLoc d)

/-- After it: the array at the gathered rows. -/
def fetched (d : Dev nD) : Valuation τ sig (Elt F) := Function.update (listed m d) (r main_v2) (rowsOf (X m) (E m) d)

/-- Before the perceptron's call. -/
def shaped (d : Dev nD) : Valuation τ sig (Elt F) :=
  opB2.result (opW2.result (opB1.result (opW1.result (opRows.result (fetched m d)))))

/-- What the perceptron's call finds. -/
def found (c : Dev nD) (b : Ref sig .tc) : Buf (Elt F) ((c : Thread nD τ).loc b) := shaped m c (r b)

/-- At the end. -/
def final (d : Dev nD) : Valuation τ sig (Elt F) := Function.update (shaped m d) (r main_v8) (result (found m) d)

/-! ## One host operation -/

theorem op_runs (d : Dev nD) (op : HloOp τ sig (Elt F)) (hop : op.bufs ⊆ ucRefs τ sig) (hf : op.fresh = ∅)
    (W : Valuation τ sig (Elt F)) (Q : PUnit → sProp 𝕄) :
    iprop(boundary (d : Thread nD τ) ∗ held (d : Thread nD τ) (ucRefs τ sig) W
        ∗ (iprop(boundary (d : Thread nD τ) ∗ held (d : Thread nD τ) (ucRefs τ sig) (op.result W)) -∗ Q ⟨⟩))
      ⊢ wp frame (wpE ((K (F := F)).defs D) 𝒱 (d : Thread nD τ) none) Set.univ (hlo rfl op fun _ => .ret ⟨⟩) Q := by
  iintro ⟨Hb, Hh, Hk⟩
  iapply (StableHlo.wp_hlo_within 𝒱 (d : Thread nD τ) none Set.univ (hp := rfl) (op := op) (k := fun _ => .ret ⟨⟩) hop (V := W) (Q := Q) hf) $$ [Hb Hh]
  · isplitl [Hb]; · iexact Hb
    iexact Hh
  iintro H
  rw [wp_ret]
  ihave H := Hk $$ H
  iapply fupd_intro
  iexact H

theorem op_sub (op : HloOp τ sig (Elt F)) (x y : Ref sig .tc) (h : op.bufs = {r x, r y}) : op.bufs ⊆ ucRefs τ sig :=
  Pipeline.sub_ucRefs op (h ▸ fun b hb => by
    rcases Finset.mem_insert.mp hb with rfl | hb
    · exact StableHlo.devRef_mem_tcRefs x
    · rw [Finset.mem_singleton.mp hb]; exact StableHlo.devRef_mem_tcRefs y)

/-- An operation that writes one array leaves the others. -/
theorem kept (op : HloOp τ sig (Elt F)) (W : Valuation τ sig (Elt F)) (w b : Ref sig .tc) (hw : op.writes = {r w})
    (h : r b ≠ r w) : op.result W (r b) = W (r b) :=
  HloOp.result_of_not_mem _ _ (by rw [hw]; exact fun hm => h (Finset.mem_singleton.mp hm))

/-! ## The SparseCore call -/

theorem ne_of_outside {S N : Finset (DevRef τ sig)} {a b : DevRef τ sig} (ha : a ∈ N) (hb : b ∈ S \ N) : b ≠ a :=
  fun h => (Finset.mem_sdiff.mp hb).2 (h.symm ▸ ha)

/-- The three arrays of the call. -/
def scRefs : Finset (DevRef τ sig) := {r main_v1, r main_arg1, r main_v2}

theorem scRefs_sub : scRefs ⊆ ucRefs τ sig := by decide

theorem scRefs_held (d : Dev nD) (W : Valuation τ sig (Elt F)) :
    (held (d : Thread nD τ) scRefs W : sProp 𝕄)
      = iprop((xLoc d ↦{fullShare} W (r main_v1)) ∗ tabPts d (W (r main_arg1)) fullShare ∗ outPts d Finset.univ (W (r main_v2))) := by
  unfold held scRefs
  rw [SparseCore.bigSep_insert' (by decide), SparseCore.bigSep_insert' (by decide), bigSep_singleton]

theorem listed_table (d : Dev nD) : listed m d (r main_arg1) = E m d := by
  unfold listed
  rw [kept _ _ main_v1 _ rfl (by decide), kept _ _ main_v0 _ rfl (by decide)]; rfl

theorem listed_array (d : Dev nD) : listed m d (r main_v2) = B m d := by
  unfold listed
  rw [kept _ _ main_v1 _ rfl (by decide), kept _ _ main_v0 _ rfl (by decide)]; rfl

theorem before_call (d : Dev nD) :
    (held (d : Thread nD τ) (ucRefs τ sig) (listed m d) : sProp 𝕄)
      = iprop(((xLoc d ↦{fullShare} X m d) ∗ tabPts d (E m d) fullShare ∗ outPts d Finset.univ (B m d))
          ∗ held (d : Thread nD τ) (ucRefs τ sig \ scRefs) (listed m d)) := by
  rw [StableHlo.held_sub_split (d : Thread nD τ) scRefs_sub, scRefs_held, listed_table, listed_array]; rfl

theorem after_call (d : Dev nD) :
    (held (d : Thread nD τ) (ucRefs τ sig) (fetched m d) : sProp 𝕄)
      = iprop(((xLoc d ↦{fullShare} X m d) ∗ tabPts d (E m d) fullShare ∗ outPts d Finset.univ (rowsOf (X m) (E m) d))
          ∗ held (d : Thread nD τ) (ucRefs τ sig \ scRefs) (listed m d)) := by
  rw [StableHlo.held_sub_split (d : Thread nD τ) scRefs_sub, scRefs_held]
  rw [show fetched m d (r main_v1) = X m d from Function.update_of_ne (by decide) _ _,
    show fetched m d (r main_arg1) = E m d from (Function.update_of_ne (by decide) _ _).trans (listed_table m d),
    show fetched m d (r main_v2) = rowsOf (X m) (E m) d from Function.update_self _ _ _]
  rw [StableHlo.held_congr (d : Thread nD τ) (V := fetched m d) (V' := listed m d)]
  intro b hb
  exact Function.update_of_ne (ne_of_outside (by decide) hb) _ _

/-! ## The perceptron's call -/

def mlpRefs : Finset (DevRef τ sig) := {r main_v3, r main_v4, r main_v5, r main_v6, r main_v7, r main_v8}

theorem mlpRefs_sub : mlpRefs ⊆ ucRefs τ sig := by decide

theorem mlpRefs_held (d : Dev nD) (W : Valuation τ sig (Elt F)) :
    (held (d : Thread nD τ) mlpRefs W : sProp 𝕄)
      = iprop(ptsOf d main_v3 (W (r main_v3)) ∗ ptsOf d main_v4 (W (r main_v4)) ∗ ptsOf d main_v5 (W (r main_v5))
          ∗ ptsOf d main_v6 (W (r main_v6)) ∗ ptsOf d main_v7 (W (r main_v7)) ∗ ptsOf d main_v8 (W (r main_v8))) := by
  unfold held mlpRefs
  rw [SparseCore.bigSep_insert' (by decide), SparseCore.bigSep_insert' (by decide), SparseCore.bigSep_insert' (by decide),
    SparseCore.bigSep_insert' (by decide), SparseCore.bigSep_insert' (by decide), bigSep_singleton]

theorem before_mlp (d : Dev nD) :
    (held (d : Thread nD τ) (ucRefs τ sig) (shaped m d) : sProp 𝕄)
      = iprop((ptsOf d main_v3 (found m d main_v3) ∗ ptsOf d main_v4 (found m d main_v4) ∗ ptsOf d main_v5 (found m d main_v5)
          ∗ ptsOf d main_v6 (found m d main_v6) ∗ ptsOf d main_v7 (found m d main_v7) ∗ ptsOf d main_v8 (found m d main_v8))
          ∗ held (d : Thread nD τ) (ucRefs τ sig \ mlpRefs) (shaped m d)) := by
  rw [StableHlo.held_sub_split (d : Thread nD τ) mlpRefs_sub, mlpRefs_held]; rfl

theorem after_mlp (d : Dev nD) :
    (held (d : Thread nD τ) (ucRefs τ sig) (final m d) : sProp 𝕄)
      = iprop((ptsOf d main_v3 (found m d main_v3) ∗ ptsOf d main_v4 (found m d main_v4) ∗ ptsOf d main_v5 (found m d main_v5)
          ∗ ptsOf d main_v6 (found m d main_v6) ∗ ptsOf d main_v7 (found m d main_v7) ∗ ptsOf d main_v8 (result (found m) d))
          ∗ held (d : Thread nD τ) (ucRefs τ sig \ mlpRefs) (shaped m d)) := by
  rw [StableHlo.held_sub_split (d : Thread nD τ) mlpRefs_sub, mlpRefs_held]
  rw [show final m d (r main_v3) = found m d main_v3 from Function.update_of_ne (by decide) _ _,
    show final m d (r main_v4) = found m d main_v4 from Function.update_of_ne (by decide) _ _,
    show final m d (r main_v5) = found m d main_v5 from Function.update_of_ne (by decide) _ _,
    show final m d (r main_v6) = found m d main_v6 from Function.update_of_ne (by decide) _ _,
    show final m d (r main_v7) = found m d main_v7 from Function.update_of_ne (by decide) _ _,
    show final m d (r main_v8) = result (found m) d from Function.update_self _ _ _]
  rw [StableHlo.held_congr (d : Thread nD τ) (V := final m d) (V' := shaped m d)]
  intro b hb
  exact Function.update_of_ne (ne_of_outside (by decide) hb) _ _

/-! ## What the calls carry -/

abbrev pay : (K (F := F)).Pay (nD := nD) (Val := Elt F) (Name := ℕ) (U := UU) := Cert.Proof.Tile.P (X m) (E m) (B m)

theorem debts_of_tcSt (d : Dev nD) :
    (iprop(∃ W, ⌜(K (F := F)).WBelow (T d) W (8 * SparseCore.Cfg.Blocks.fst 1 1 ((0 : Fin 1).val + 1))⌝ ∗ owes (T d) ((K (F := F)).Otc d ((0 : Fin 1).val + 1)) W) : sProp 𝕄) ⊢ debts d := by
  rw [(K (F := F)).Otc_end d (n := (0 : Fin 1).val + 1) (le_refl 1)]
  iintro ⟨%W, %hW, H⟩
  iexists W; isplitr
  · ipureintro; exact fun p hp => hW p hp
  iexact H

theorem tcSt_of_debts (d : Dev nD) :
    (debts d : sProp 𝕄) ⊢ iprop(∃ W, ⌜(K (F := F)).WBelow (T d) W (8 * SparseCore.Cfg.Blocks.fst 1 1 ((0 : Fin 1).val + 1))⌝ ∗ owes (T d) ((K (F := F)).Otc d ((0 : Fin 1).val + 1)) W) := by
  rw [(K (F := F)).Otc_end d (n := (0 : Fin 1).val + 1) (le_refl 1)]
  iintro ⟨%W, %hW, H⟩
  iexists W; isplitr
  · ipureintro; exact fun p hp => hW hp
  iexact H

theorem mlp_runs [∀ e, Nonempty (Elt F e)] (κ : GSem nD τ sig → ℕ) (d : Dev nD) (Q : PUnit → sProp 𝕄) :
    iprop((K (F := F)).ctx embL (pay m) κ ∗ boundary (d : Thread nD τ) ∗ held (d : Thread nD τ) (ucRefs τ sig) (shaped m d)
        ∗ debts d ∗ tickets d
        ∗ (iprop(boundary (d : Thread nD τ) ∗ held (d : Thread nD τ) (ucRefs τ sig) (final m d) ∗ debts d) -∗ Q ⟨⟩))
      ⊢ wp frame (wpE ((K (F := F)).defs D) 𝒱 (d : Thread nD τ) none) Set.univ
          (Prog.lift (.customCall (SparseCore.inner (Pipeline.entry 0)) ())) Q := by
  rw [before_mlp, after_mlp]
  iintro ⟨#Hctx, Hb, ⟨Hin, Hrest⟩, Hd, Ht, Hk⟩
  ihave Hlev := (SparseCore.Cfg.ctx_levAts (K := K (F := F)) (EH := embL) (P := pay m) κ) $$ Hctx
  iapply ((K (F := F)).wp_liftProg D 𝒱 (d : Thread nD τ) Set.univ none
    (.op (.customCall (Pipeline.entry 0) ()) fun _ => .ret ⟨⟩) Q) $$ [Hb Hin Hrest Hd Ht Hk Hlev]
  iapply (call_runs (found m) d Q) $$ [Hb Hin Hrest Hd Ht Hk Hlev]
  isplitl [Hrest Hk]
  · iintro ⟨Hb, Hout, Hd⟩
    iapply Hk
    isplitl [Hb]; · iexact Hb
    isplitr [Hd]
    · isplitl [Hout]; · iexact Hout
      iexact Hrest
    iexact Hd
  isplitl [Hb]; · iexact Hb
  isplitl [Hin]; · iexact Hin
  isplitl [Hd]; · iexact Hd
  isplitl [Hlev]; · iexact Hlev
  iexact Ht

/-! ## @main -/

theorem dealt_held (d : Dev nD) :
    (unscopedBufs d (fun b => m ((SparseCore.T d).loc b)) : sProp 𝕄) = held (d : Thread nD τ) (ucRefs τ sig) (launchContents m d) :=
  Pipeline.unscopedBufs_held d (launchContents m d)

theorem main_runs [∀ e, Nonempty (Elt F e)] (κ : GSem nD τ sig → ℕ) (d : Dev nD) :
    iprop((K (F := F)).ctx embL (pay m) κ ∗ (K (F := F)).tcSt embL d 0 ∗ (K (F := F)).tcRes m ρ d ∗ tickets d)
      ⊢ wp frame (wpE ((K (F := F)).defs D) 𝒱 (T d) none) Set.univ (main d)
          fun _ => iprop((K (F := F)).tcSt embL d 1 ∗ held (d : Thread nD τ) (ucRefs τ sig) (final m d) ∗ (K (F := F)).tcEnd d) := by
  unfold SparseCore.Cfg.tcRes SparseCore.Cfg.tcEnd
  rw [dealt_held]
  simp only [main, wp_bind, wp_pure]
  iintro ⟨#Hctx, Hst, ⟨Hb, Hh, Hts, -⟩, Htk⟩
  iapply (op_runs d opTurn (op_sub _ main_arg0 main_v0 rfl) rfl (launchContents m d) _) $$ [Hst Hb Hh Hts Htk]
  isplitl [Hb]; · iexact Hb
  isplitl [Hh]; · iexact Hh
  iintro ⟨Hb, Hh⟩
  iapply (op_runs d opList (op_sub _ main_v0 main_v1 rfl) rfl _ _) $$ [Hst Hb Hh Hts Htk]
  isplitl [Hb]; · iexact Hb
  isplitl [Hh]; · iexact Hh
  iintro ⟨Hb, Hh⟩
  ihave Hh := (show (held (d : Thread nD τ) (ucRefs τ sig) (opList.result (opTurn.result (launchContents m d))) : sProp 𝕄) ⊢ _ from
    Entails.of_eq (before_call m d)) $$ Hh
  icases Hh with ⟨Hin, Hrest⟩
  iapply ((K (F := F)).wp_run D 𝒱 (EH := embL) (P := pay m) κ d 0) $$ [Hst Hb Hin Hrest Hts Htk]
  isplitr; · iexact Hctx
  isplitl [Hst]; · iexact Hst
  isplitl [Hin]
  · rw [Cert.Proof.Tile.st_eq]; iexact Hin
  iintro ⟨Hst, Hout⟩
  ihave Hout := (Entails.of_eq (Cert.Proof.Tile.dn_eq (X m) (E m) (B m) d)) $$ Hout
  ihave Hh := (Entails.of_eq (after_call m d).symm) $$ [Hout Hrest]
  · isplitl [Hout]; · iexact Hout
    iexact Hrest
  iapply (op_runs d opRows (op_sub _ main_v2 main_v3 rfl) rfl _ _) $$ [Hst Hb Hh Hts Htk]
  isplitl [Hb]; · iexact Hb
  isplitl [Hh]; · iexact Hh
  iintro ⟨Hb, Hh⟩
  iapply (op_runs d opW1 (op_sub _ main_arg2 main_v4 rfl) rfl _ _) $$ [Hst Hb Hh Hts Htk]
  isplitl [Hb]; · iexact Hb
  isplitl [Hh]; · iexact Hh
  iintro ⟨Hb, Hh⟩
  iapply (op_runs d opB1 (op_sub _ main_arg3 main_v5 rfl) rfl _ _) $$ [Hst Hb Hh Hts Htk]
  isplitl [Hb]; · iexact Hb
  isplitl [Hh]; · iexact Hh
  iintro ⟨Hb, Hh⟩
  iapply (op_runs d opW2 (op_sub _ main_arg4 main_v6 rfl) rfl _ _) $$ [Hst Hb Hh Hts Htk]
  isplitl [Hb]; · iexact Hb
  isplitl [Hh]; · iexact Hh
  iintro ⟨Hb, Hh⟩
  iapply (op_runs d opB2 (op_sub _ main_arg5 main_v7 rfl) rfl _ _) $$ [Hst Hb Hh Hts Htk]
  isplitl [Hb]; · iexact Hb
  isplitl [Hh]; · iexact Hh
  iintro ⟨Hb, Hh⟩
  unfold SparseCore.Cfg.tcSt
  icases Hst with ⟨Hd, Hst⟩
  ihave Hd := (debts_of_tcSt d) $$ Hd
  iapply (mlp_runs m κ d _) $$ [Hst Hb Hh Hd Hts Htk]
  isplitr; · iexact Hctx
  isplitl [Hb]; · iexact Hb
  isplitl [Hh]; · iexact Hh
  isplitl [Hd]; · iexact Hd
  isplitl [Htk]; · iexact Htk
  iintro ⟨Hb, Hh, Hd⟩
  ihave Hd := (tcSt_of_debts d) $$ Hd
  imodintro
  isplitl [Hd Hst]
  · isplitl [Hd]; · iexact Hd
    iexact Hst
  isplitl [Hh]; · iexact Hh
  isplitl [Hb] <;> iassumption

/-! ## The launch -/

theorem cellOf_inj : Function.Injective (Pipeline.cellOf (nD := nD) (τ := τ) (Pipeline.pin pcfgs (adm (F := F)))) :=
  Pipeline.cellOf_injective _ (fun p => match p with | 0 => (by decide : Pipeline.SpecSemsDistinct spec1))
    fun p p' h => absurd (Subsingleton.elim p p') h

/-- The launch's own ghost element: the handshakes' and the pipeline's. -/
def u₀ : UU :=
  (initOf (K (F := F)).hsCells (K (F := F)).hsToks,
    (initOf (Pipeline.cells (Pipeline.pin pcfgs (adm (F := F))) (cellOf_inj (F := F))) (Pipeline.launchToks (Pipeline.pin pcfgs (adm (F := F))) (cellOf_inj (F := F))), 1))

theorem tickets_dealt :
    (BI.own (Mlp.EP (F := F) (initOf (Pipeline.cells (Pipeline.pin pcfgs (adm (F := F))) (cellOf_inj (F := F))) (Pipeline.launchToks (Pipeline.pin pcfgs (adm (F := F))) (cellOf_inj (F := F))))) : sProp 𝕄)
      ⊢ iprop(|==> bigSep Finset.univ fun d : Dev nD => tickets d) := by
  refine (Pipeline.fund_ghost (Pipeline.pin pcfgs (adm (F := F))) (Mlp.EP (F := F)) (cellOf_inj (F := F))).trans (bupd_mono ?_)
  rw [bigSep_sep']
  refine BIClass.sep_mono (Entails.of_eq (bigSep_congr fun d _ => ?_)) (Entails.of_eq (bigSep_congr fun d _ => ?_)) <;>
    exact bigSep_univ_of_subsingleton (0 : Fin 1)

theorem nothing {I : Type} (s : Finset I) : (bigSep s fun _ => iprop(emp)) = (iprop(emp) : sProp 𝕄) := bigSep_emp_const s

theorem dealt : (ownU (u₀ (F := F)) : sProp 𝕄)
    ⊢ |={Set.univ}=> iprop(BI.own ((embL : Emb _ 𝕄) (initOf (K (F := F)).hsCells (K (F := F)).hsToks)) ∗ (bigSep Finset.univ fun d : Dev nD => tickets d)
        ∗ bigSep Finset.univ fun thr : Thread nD τ => bigSep Finset.univ fun q : Fin 1 => (pay m).x q thr) := by
  unfold u₀
  iintro Hu
  ihave H := (ownU_pair (initOf (K (F := F)).hsCells (K (F := F)).hsToks) _) $$ Hu
  icases H with ⟨HH, HR⟩
  ihave H := (own_pair_emb (embR : Emb _ 𝕄) _ _) $$ HR
  icases H with ⟨HP, -⟩
  ihave HP := tickets_dealt $$ HP
  imod HP
  imodintro
  isplitl [HH]; · iexact HH
  isplitl [HP]; · iexact HP
  rw [show (bigSep Finset.univ fun thr : Thread nD τ => bigSep Finset.univ fun q : Fin 1 => (pay m).x q thr) = bigSep Finset.univ fun _ => iprop(emp) from
    bigSep_congr fun _ _ => bigSep_univ_of_subsingleton (0 : Fin 1), nothing]
  iempintro

/-- What a final state shows of a device. -/
def shows (d : Dev nD) (s' : Phys nD τ sig (Elt F)) : Prop := ∀ b ∈ ucRefs τ sig, s'.mem.mem (d, b) = final m d b

theorem read_off (d : Dev nD) (s' : Phys nD τ sig (Elt F)) :
    iprop(held (d : Thread nD τ) (ucRefs τ sig) (final m d) ∗ SI s') ⊢ (⌜shows m d s'⌝ : sProp 𝕄) := by
  unfold held
  iintro ⟨H, HS⟩
  ihave %h := (SI_pointsTo_bufs_agree (qs := fun _ => fullShare) (ucRefs τ sig)) $$ [HS H]
  · isplitl [HS]; · iexact HS
    iexact H
  ipureintro
  exact h

/-- Every fair run of the program ends, each device's arrays at what the calls made of them, every counter at zero. -/
theorem run_main [∀ e, Nonempty (Elt F e)] (hX : ∀ d j, (X m d j).toNat < 100000) :
    θ_run (Cert.KernelIdeal.defs (F := F)) (Cert.KernelIdeal.threads (F := F)) ⟨m, fun _ => 0, ρ⟩ fun s =>
      (∀ d : Dev nD, ∀ b ∈ ucRefs τ sig, s.2.mem (d, b) = final m d b) ∧ s.2.sem = fun _ => 0 :=
  SparseCore.Cfg.θ_run_sc_quiescent (K := K (F := F)) (D := D (F := F)) (𝒱 := 𝒱) (EH := embL) (P := pay m) (A := ∅) facts v₀
    (fun q hq => match q with | 0 => nomatch hq)
    (fun q _ => match q with | 0 => tileObl (X m) (E m) (B m) hX)
    (fun q _ => match q with | 0 => SparseCore.Cfg.VecSplit.of_plain (vecSplit (X m) (E m) (B m)))
    m ρ main (fun d => tickets d) (fun d => held (d : Thread nD τ) (ucRefs τ sig) (final m d)) (u₀ (F := F))
    (sep_elim_left.trans (dealt m)) (main_runs m ρ) (shows m) (read_off m)
    (fun s => (∀ d : Dev nD, ∀ b ∈ ucRefs τ sig, s.2.mem (d, b) = final m d b) ∧ s.2.sem = fun _ => 0) (fun _ h hz => ⟨h, hz⟩)

end Cert.Proof.Launch

end
-- ==== Proof.Frames.lean ====
/-
  The three frames: what a run of the program leaves of its arguments, the precondition read as a bound on the indices, the
  program over float words being the idealized one's own text, and the reference's run.
-/
module

public import proofs.«01_k».proof.Defs
public import proofs.«01_k».proof.Proof.Main
public import proofs.«01_k».proof.Proof.Gen.Kernel
public import proofs.«01_k».proof.Proof.Gen.ReferenceIdeal
public import proofs.«01_k».proof.Proof.Gen.ReferenceIdeal.Run
public import proofs.«01_k».proof.Proof.Gen.Pre_in_vocabulary
public import Idealize.ShloMosaic.Lib.ReduceAll
public import Idealize.ShloMosaic.Lib.ValueIdxCore
public import Idealize.ShloMosaic.Lib.Pipeline.Value

@[expose] public section

set_option maxRecDepth 65536

noncomputable section

namespace Cert.Proof.Launch

open Cert.KernelIdeal Cert.KernelIdeal.Gen
open Cert.Proof.Tile (xLoc tLoc oLoc)
open Cert.Proof.Rows

open Idealize.ShloMosaic Idealize.ShloMosaic.TcCoe
open Idealize.ShloMosaic.StableHlo (launchContents)
open Idealize.ShloMosaic.Pipeline (ucRefs)
open Idealize.ShloMosaic.ValueIdx
open Idealize.SL.Sem

variable {F : FTy → Type} [FloatOps F]
variable (m : (ℓ : Loc nD τ sig) → Buf (Elt F) ℓ) (ρ : Dev nD → PrngReg)

/-! ## The arguments -/

/-- The arrays no operation before the perceptron's call writes there. -/
theorem shaped_of (d : Dev nD) (b : Ref sig .tc) (h3 : r b ≠ r main_v3) (h4 : r b ≠ r main_v4) (h5 : r b ≠ r main_v5)
    (h6 : r b ≠ r main_v6) (h7 : r b ≠ r main_v7) : shaped m d (r b) = fetched m d (r b) := by
  unfold shaped
  rw [kept _ _ main_v7 _ rfl h7, kept _ _ main_v6 _ rfl h6, kept _ _ main_v5 _ rfl h5, kept _ _ main_v4 _ rfl h4,
    kept _ _ main_v3 _ rfl h3]

theorem fetched_of (d : Dev nD) (b : Ref sig .tc) (h0 : r b ≠ r main_v0) (h1 : r b ≠ r main_v1) (h2 : r b ≠ r main_v2) :
    fetched m d (r b) = launchContents m d (r b) := by
  rw [fetched, Function.update_of_ne h2, listed, kept _ _ main_v1 _ rfl h1, kept _ _ main_v0 _ rfl h0]

/-- The arrays the program never writes. -/
theorem final_of (d : Dev nD) (b : Ref sig .tc) (h : ∀ n ∈ [main_v0, main_v1, main_v2, main_v3, main_v4, main_v5, main_v6, main_v7, main_v8], r b ≠ r n) :
    final m d (r b) = m ((d : Thread nD τ).loc b) := by
  rw [final, Function.update_of_ne (h main_v8 (by decide)),
    shaped_of m d b (h _ (by decide)) (h _ (by decide)) (h _ (by decide)) (h _ (by decide)) (h _ (by decide)),
    fetched_of m d b (h _ (by decide)) (h _ (by decide)) (h _ (by decide))]

/-- The arguments at the end of a run. -/
def Unchanged (s : MemSt nD τ sig (Elt F)) (c : Dev nD) : Prop :=
  s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_arg3) = m ((c : Thread nD τ).loc main_arg3)
    ∧ s.mem ((c : Thread nD τ).loc main_arg4) = m ((c : Thread nD τ).loc main_arg4)
    ∧ s.mem ((c : Thread nD τ).loc main_arg5) = m ((c : Thread nD τ).loc main_arg5)

theorem unchanged_of (s : MemSt nD τ sig (Elt F)) (c : Dev nD) (h : ∀ b ∈ ucRefs τ sig, s.mem (c, b) = final m c b) : Unchanged m s c :=
  have key (b : Ref sig .tc) (hb : b.isScoped = false) (hn) : s.mem ((c : Thread nD τ).loc b) = m ((c : Thread nD τ).loc b) :=
    (h (r b) (Finset.mem_filter.mpr ⟨StableHlo.devRef_mem_tcRefs b, by rw [Proc.isScoped_devRef, hb]; exact Bool.false_ne_true⟩)).trans (final_of m c b hn)
  ⟨key main_arg0 rfl (by decide), key main_arg1 rfl (by decide), key main_arg2 rfl (by decide), key main_arg3 rfl (by decide),
    key main_arg4 rfl (by decide), key main_arg5 rfl (by decide)⟩

/-! ## The list of indices -/

/-- The list before the SparseCore call runs position by position: number `t * 4096 + b` is entry `b`'s index at position `t`. -/
theorem X_line (d : Dev nD) (b : Fin 4096) (t : Fin 200) :
    X m d (line (t.val * 4096 + b.val)) = m ((d : Thread nD τ).loc main_arg0) (ix2 b t) := by
  have e : X m d = fun i => shapeCast S819200 (transpose S200x4096 [1, 0] (m ((d : Thread nD τ).loc main_arg0)) transposes_S4096x200_S200x4096_1_0)
      shapeCasts_S200x4096_S819200 i := by
    unfold X listed
    rw [StableHlo.reshape_result', StableHlo.unary_result']
    rfl
  rw [e]
  refine (shapeCast_apply _ _ _ (ix2 t b) ?_).trans ((transpose_apply _ _ _ _ (ix2 b t) ?_))
  · rw [Shape.rowMajor_val_two, Shape.rowMajor_val_one]
    show t.val * 4096 + b.val = (line (t.val * 4096 + b.val) 0).val
    rw [line_val]; omega
  · intro a
    match a with
    | ⟨0, _⟩ => rfl
    | ⟨1, _⟩ => rfl

/-- The list's entries are in range where the given indices are. -/
theorem X_lt (h : ∀ (d : Dev nD) (b : Fin 4096) (t : Fin 200), (m ((d : Thread nD τ).loc main_arg0) (ix2 b t)).toNat < 100000) (d : Dev nD)
    (j : S819200.Idx) : (X m d j).toNat < 100000 := by
  have hj : (j 0).val < 819200 := (j 0).isLt
  have e : j = line ((⟨(j 0).val / 4096, by omega⟩ : Fin 200).val * 4096 + (⟨(j 0).val % 4096, by omega⟩ : Fin 4096).val) :=
    eq_line (by show (j 0).val = (j 0).val / 4096 * 4096 + (j 0).val % 4096; omega)
  rw [e, X_line]
  exact h _ _ _

/-! ## The precondition -/

/-- A word that is at least 0 and below 100000 as a signed number is below 100000 as a natural number. -/
theorem word_range (x : BitVec 32) (h : IntOp.andi (IntOp.cmpi .sge x 0#32) (IntOp.cmpi .slt x 100000#32) = 1#1) : x.toNat < 100000 := by
  obtain ⟨h0, h1⟩ := IntOp.andi_eq_one.1 h
  have a0 := IntOp.cmpi_sge.1 h0
  have a1 := IntOp.cmpi_slt.1 h1
  have z0 : (0#32).toInt = 0 := rfl
  have z1 : (100000#32).toInt = 100000 := rfl
  rw [z0] at a0
  rw [z1] at a1
  have := x.isLt
  rw [BitVec.toInt_eq_toNat_cond] at a0 a1
  split at a0 <;> rename_i hc
  · rw [if_pos hc] at a1; omega
  · omega

/-- The predicate holding, every index is in range. -/
theorem range_of_pre (x0 : IVec Cert.Pre_in_vocabulary.S4096x200 32) (x1 x2 x3 x4 x5)
    (h : Cert.Pre_in_vocabulary.fn (F := F) x0 x1 x2 x3 x4 x5 = fun _ => 1#1) (b : Fin 4096) (t : Fin 200) : (x0 (ix2 b t)).toNat < 100000 := by
  have : Subsingleton Cert.Pre_in_vocabulary.S_.Idx := ⟨fun a b => funext fun z => z.elim0⟩
  exact word_range _ (Host.reduce_andi_all _ _ _ _ (fun z => z.elim0) (congrFun h _) (ix2 b t))

/-! ## The frames -/

/-- What a run leaves, with the range of the indices given. -/
theorem leaves [∀ e, Nonempty (Elt F e)] (h : ∀ (d : Dev nD) (b : Fin 4096) (t : Fin 200), (m ((d : Thread nD τ).loc main_arg0) (ix2 b t)).toNat < 100000) :
    θ_run (Cert.KernelIdeal.defs (F := F)) (Cert.KernelIdeal.threads (F := F)) ⟨m, fun _ => 0, ρ⟩
      fun s => (∀ c, Unchanged m s.2 c) ∧ s.2.sem = fun _ => 0 :=
  (θ_run _ _ _).mono (fun s hs => ⟨fun c => unchanged_of m s.2 c (hs.1 c), hs.2⟩) (run_main m ρ (X_lt m h))

theorem frame_KernelIdeal : Cert.quiescent_KernelIdeal := fun m g hpre =>
  leaves (F := Ideal) m g fun d => range_of_pre _ _ _ _ _ _ (hpre d)

/-! The text of the program over float words is the idealized one's, under other names: its threads and its table of bodies. -/

theorem same_threads : Cert.Kernel.threads (F := F) = Cert.KernelIdeal.threads (F := F) := by rfl

theorem same_bodies : Cert.Kernel.defs₀ (F := F) = Cert.KernelIdeal.defs₀ (F := F) := by
  funext p l a
  cases p with
  | tc => match l, a with
    | 0, _ => rfl
    | 1, _ => rfl
  | scScalar c => match l, a with
    | 0, _ => rfl
    | 1, _ => rfl
  | scVector c s => match l, a with
    | 0, _ => rfl
    | 1, _ => rfl

theorem same_defs : Cert.Kernel.defs (F := F) = Cert.KernelIdeal.defs (F := F) :=
  congrArg (fun D => Cert.KernelIdeal.sc.defs (Pipeline.defs Cert.KernelIdeal.pcfgs D)) same_bodies

/-- So the run above is its run too, over float words. -/
theorem frame_Kernel : Cert.quiescent_Kernel := fun m g hpre => by
  have h := leaves (F := Bits) m g fun d => range_of_pre _ _ _ _ _ _ (hpre d)
  rw [← same_threads (F := Bits), ← same_defs (F := Bits)] at h
  exact h

theorem frame_ReferenceIdeal : Cert.quiescent_ReferenceIdeal := fun m g _ =>
  (θ_run _ _ _).mono (fun s hs => ⟨fun c => (hs c).2, sem_eq_zero_of_no_sems (by decide) s.2⟩)
    (Cert.ReferenceIdeal.Value.run (F := Ideal) m g)

theorem frame_ReferenceIdeal_pre : Cert.quiescent_ReferenceIdeal_pre_in_vocabulary := fun m g _ => frame_ReferenceIdeal m g trivial

end Cert.Proof.Launch

end
-- ==== Proof.Formula.lean ====
/-
  The answer as a formula over the extended reals, and the reference's term read as it.
-/
module

public import proofs.«01_k».proof.Proof.Rows
public import proofs.«01_k».proof.Proof.Gen.ReferenceIdeal
public import Idealize.ShloMosaic.Lib.ReduceAll
public import Idealize.ShloMosaic.Lib.ValueIdxCore
public import Idealize.ShloMosaic.Lib.StackMember
public import Idealize.ShloMosaic.Lib.Pipeline.Value
public import Idealize.ShloMosaic.Lib.IdealHost
public import Idealize.ShloMosaic.PureOps.Ideal.Laws

@[expose] public section

set_option maxRecDepth 16384

noncomputable section

namespace Cert.Proof.Formula

open Cert.ReferenceIdeal Cert.ReferenceIdeal.Gen
open Cert.Proof.Rows (cell)

open Idealize.ShloMosaic Idealize.ShloMosaic.ValueIdx
open scoped BigOperators

variable (A0 : S4096x200.Idx → BitVec 32) (A1 : S100000x128.Idx → EReal) (A2 : S25600x32.Idx → EReal) (A3 : S32.Idx → EReal)
  (A4 : S32x1.Idx → EReal) (A5 : S1.Idx → EReal)

/-! ## The formula -/

/-- The place of position `t`'s lane `k` among a batch entry's 25600 flat embedding entries. -/
def flatPos (t : Fin 200) (k : Fin 128) : Fin 25600 := ⟨t.val * 128 + k.val, by omega⟩

/-- Lane `k` of the embedding row of batch entry `b` at position `t`. -/
def embedding (b : Fin 4096) (t : Fin 200) (k : Fin 128) : EReal := A1 (cell (A0 (ix2 b t)).toNat k.val)

/-- The first layer's sum before its bias. -/
def firstLayer (b : Fin 4096) (h : Fin 32) : EReal := ∑ t : Fin 200, ∑ k : Fin 128, embedding A0 A1 b t k * A2 (ix2 (flatPos t k) h)

/-- The perceptron over given first-layer sums: bias, rectifier, second layer, bias, logistic function. -/
def perceptron (S : Fin 32 → EReal) (b1 w2 : Fin 32 → EReal) (b2 : EReal) : EReal :=
  Ideal.logistic ((∑ h : Fin 32, max (S h + b1 h) 0 * w2 h) + b2)

def answer (b : Fin 4096) : EReal :=
  perceptron (firstLayer A0 A1 A2 b) (fun h => A3 (ix1 h)) (fun h => A4 (ix2 h (0 : Fin 1))) (A5 (ix1 (0 : Fin 1)))

/-! ## The reference's lookup -/

/-- The indices the reference looks up: a negative one counted from the end. -/
def wrapped : IVec S4096x200 32 :=
  select (cmpi .slt A0 (broadcastInDim S4096x200 ![] bcast_S_S4096x200 (constantI S_ 32 0#32)))
    (addi A0 (broadcastInDim S4096x200 ![] bcast_S_S4096x200 (constantI S_ 32 100000#32))) A0

def looked : IVec S4096x200x1 32 := broadcastInDim S4096x200x1 ![0, 1] bcast_S4096x200_S4096x200x1_0_1 (wrapped A0)

/-- Whether an index looked up is in the table. -/
def within : IVec S4096x200 1 :=
  Host.reduce IntOp.andi (andi (cmpi .sge (looked A0) (broadcastInDim S4096x200x1 ![] bcast_S_S4096x200x1 (constantI S_ 32 0#32)))
      (cmpi .sle (looked A0) (broadcastInDim S4096x200x1 ![0, 1, 2] bcast_S1x1x1_S4096x200x1_0_1_2 (broadcastInDim S1x1x1 ![2] bcast_S1_S1x1x1_2 (constantI S1 32 99999#32)))))
    (constantI S_ 1 1#1) reducesTo_S4096x200x1_S4096x200_d2 h_S_

/-- The rows taken: not a number where the index is outside the table. -/
def taken : FVec Ideal S4096x200x128 .f32 :=
  select (broadcastInDim S4096x200x128 ![0, 1] bcast_S4096x200_S4096x200x128_0_1 (within A0))
    (Host.gather gather_S100000x128_S4096x200x1_S4096x200x128_2_0_n_n_0_2_1128 A1 (looked A0))
    (broadcastInDim S4096x200x128 ![] bcast_S_S4096x200x128 (constant (F := Ideal) S_ .f32 0x7FC00000#32))

variable (hr : ∀ (b : Fin 4096) (t : Fin 200), (A0 (ix2 b t)).toNat < 100000)

theorem select_true {s : Shape} {α : Type} (c : IVec s 1) (a b : s.Idx → α) (i : s.Idx) (h : c i = 1#1) : select c a b i = a i := by
  unfold select Scalar.select; exact if_pos h

theorem toInt_of_lt (x : BitVec 32) (h : x.toNat < 100000) : x.toInt = x.toNat := by
  rw [BitVec.toInt_eq_toNat_cond, if_pos (by omega)]

include hr

theorem wrapped_at (b : Fin 4096) (t : Fin 200) : wrapped A0 (ix2 b t) = A0 (ix2 b t) := by
  show Scalar.select (IntOp.cmpi .slt (A0 (ix2 b t)) 0#32) _ _ = _
  unfold Scalar.select
  rw [if_neg]
  intro h
  have := IntOp.cmpi_slt.1 h
  rw [toInt_of_lt _ (hr b t), show (0#32).toInt = 0 from rfl] at this
  omega

theorem looked_at (j : S4096x200x1.Idx) : looked A0 j = A0 (ix2 (j 0) (j 1)) := by
  refine (broadcastInDim_apply _ _ _ j (ix2 (j 0) (j 1)) ?_).trans (wrapped_at A0 hr _ _)
  intro a
  match a with
  | ⟨0, _⟩ => rfl
  | ⟨1, _⟩ => rfl

theorem within_at (j : S4096x200.Idx) : within A0 j = 1#1 := by
  refine Host.reduce_andi_one _ _ _ _ _ rfl fun i => ?_
  have h := hr (i 0) (i 1)
  show IntOp.andi (IntOp.cmpi .sge (looked A0 i) 0#32) (IntOp.cmpi .sle (looked A0 i) 99999#32) = 1#1
  rw [looked_at A0 hr]
  refine IntOp.andi_eq_one.2 ⟨IntOp.cmpi_sge.2 ?_, IntOp.cmpi_sle.2 ?_⟩
  · rw [toInt_of_lt _ h, show (0#32).toInt = 0 from rfl]; omega
  · rw [toInt_of_lt _ h, show (99999#32).toInt = 99999 from rfl]; omega

/-- The row looked up, its number being in the table. -/
theorem gathered_at (b : Fin 4096) (t : Fin 200) (k : Fin 128) :
    Host.gather gather_S100000x128_S4096x200x1_S4096x200x128_2_0_n_n_0_2_1128 A1 (looked A0) (ix3 b t k) = embedding A0 A1 b t k := by
  unfold embedding Host.gather
  refine congrArg A1 (Rows.eq_cell ?_ ?_)
  · show GatherDims.start _ _ _ _ + GatherDims.batchCoord _ _ _ + GatherDims.offCoord _ _ _ = _
    rw [GatherDims.batchCoord_eq_zero _ _ _ (fun h => by cases h),
      GatherDims.offCoord_eq_zero _ _ _ (fun h => ((GatherDims.mem_sKept _ _).mp h).1 (List.mem_singleton.mpr rfl))]
    unfold GatherDims.start
    rw [dif_pos (show (0 : Fin 2) ∈ gather_S100000x128_S4096x200x1_S4096x200x128_2_0_n_n_0_2_1128.startIndexMap from List.mem_singleton.mpr rfl), looked_at A0 hr]
    have e : ∀ (b' : Fin 4096) (t' : Fin 200), b' = b → t' = t →
        min (A0 (ix2 b' t')).toInt.toNat (100000 - 1) + 0 + 0 = (A0 (ix2 b t)).toNat := by
      intro _ _ eb et
      rw [eb, et, toInt_of_lt _ (hr b t)]
      have := hr b t
      omega
    exact e _ _ rfl rfl
  · show GatherDims.start _ _ _ _ + GatherDims.batchCoord _ _ _ + GatherDims.offCoord _ _ _ = _
    rw [GatherDims.batchCoord_eq_zero _ _ _ (fun h => by cases h)]
    unfold GatherDims.start
    rw [dif_neg (show (1 : Fin 2) ∉ gather_S100000x128_S4096x200x1_S4096x200x128_2_0_n_n_0_2_1128.startIndexMap from fun h => absurd (List.mem_singleton.mp h) (by decide))]
    unfold GatherDims.offCoord
    rw [dif_pos ((GatherDims.mem_sKept _ _).mpr ⟨fun h => absurd (List.mem_singleton.mp h) (by decide), fun h => by cases h⟩)]
    show 0 + 0 + k.val = k.val
    omega

theorem taken_at (b : Fin 4096) (t : Fin 200) (k : Fin 128) : taken A0 A1 (ix3 b t k) = embedding A0 A1 b t k := by
  have hb : broadcastInDim S4096x200x128 ![0, 1] bcast_S4096x200_S4096x200x128_0_1 (within A0) (ix3 b t k) = 1#1 := by
    refine (broadcastInDim_apply _ _ _ _ (ix2 b t) ?_).trans (within_at A0 hr _)
    intro a
    match a with
    | ⟨0, _⟩ => rfl
    | ⟨1, _⟩ => rfl
  exact (select_true _ _ _ _ hb).trans (gathered_at A0 A1 hr b t k)

omit hr

/-! ## The reference's layers -/

theorem sum_form {s : Shape} (x y : FVec Ideal s .f32) (i : s.Idx) : addf x y i = (x i + y i : EReal) := rfl

theorem rectified_form (x : FVec Ideal S4096x32 .f32) (i : S4096x32.Idx) :
    maximumf x (broadcastInDim S4096x32 ![] bcast_S_S4096x32 (constant S_ .f32 0x00000000#32)) i = max (x i : EReal) 0 := by
  show max (x i : EReal) (Ideal.ofBits .f32 0x00000000#32) = _
  rw [Ideal.ofBits_zero_f32]

theorem logistic_form (x : FVec Ideal S4096x1 .f32) (i : S4096x1.Idx) :
    Host.divf (broadcastInDim S4096x1 ![] bcast_S_S4096x1 (constant (F := Ideal) S_ .f32 0x3F800000#32))
      (addf (broadcastInDim S4096x1 ![] bcast_S_S4096x1 (constant (F := Ideal) S_ .f32 0x3F800000#32)) (Host.exp (Host.negf x))) i
      = Ideal.logistic (x i) := by
  show Ideal.div (Ideal.ofBits .f32 0x3F800000#32) (Ideal.ofBits .f32 0x3F800000#32 + Ideal.exp (-(x i : EReal))) = _
  rw [Ideal.ofBits_one_f32]
  rfl

def flat : FVec Ideal S4096x25600 .f32 := shapeCast S4096x25600 (taken A0 A1) shapeCasts_S4096x200x128_S4096x25600

include hr in
theorem flat_at (b : Fin 4096) (t : Fin 200) (k : Fin 128) : flat A0 A1 (ix2 b (flatPos t k)) = embedding A0 A1 b t k := by
  refine (shapeCast_apply _ _ _ (ix3 b t k) ?_).trans (taken_at A0 A1 hr b t k)
  rw [Shape.rowMajor_val_three, Shape.rowMajor_val_two]
  show (b.val * 200 + t.val) * 128 + k.val = b.val * 25600 + (t.val * 128 + k.val)
  ring

/-- The 25600 flat places are the 200 positions' 128 lanes each. -/
theorem sum_flat (f : Fin 25600 → EReal) : ∑ c, f c = ∑ t : Fin 200, ∑ k : Fin 128, f (flatPos t k) := by
  rw [← Fintype.sum_prod_type', ← Equiv.sum_comp (finProdFinEquiv (m := 200) (n := 128))]
  refine Finset.sum_congr rfl fun p _ => congrArg f (Fin.ext ?_)
  show p.2.val + 128 * p.1.val = p.1.val * 128 + p.2.val
  ring

def hidden : FVec Ideal S4096x32 .f32 :=
  maximumf (addf (Host.dotGeneral (F := Ideal) (φ₁ := .f32) (φ₂ := .f32) dot_S4096x25600_S25600x32_S4096x32_1_0_0_1_n_n none (flat A0 A1) A2)
      (broadcastInDim S4096x32 ![0, 1] bcast_S1x32_S4096x32_0_1 (broadcastInDim S1x32 ![1] bcast_S32_S1x32_1 A3)))
    (broadcastInDim S4096x32 ![] bcast_S_S4096x32 (constant S_ .f32 0x00000000#32))

include hr in
theorem hidden_at (b : Fin 4096) (h : Fin 32) : hidden A0 A1 A2 A3 (ix2 b h) = max (firstLayer A0 A1 A2 b h + A3 (ix1 h)) 0 := by
  have e1 : Host.dotGeneral (F := Ideal) (φ₁ := .f32) (φ₂ := .f32) dot_S4096x25600_S25600x32_S4096x32_1_0_0_1_n_n none (flat A0 A1) A2 (ix2 b h)
      = firstLayer A0 A1 A2 b h := by
    refine (StackMember.dotGeneral_plain_apply (m := 4096) (k := 25600) (n := 32) none (flat A0 A1) A2 b h).trans ?_
    rw [sum_flat]
    refine Finset.sum_congr rfl fun t _ => Finset.sum_congr rfl fun k _ => ?_
    rw [flat_at A0 A1 hr]
  have e2 : broadcastInDim S4096x32 ![0, 1] bcast_S1x32_S4096x32_0_1 (broadcastInDim S1x32 ![1] bcast_S32_S1x32_1 A3) (ix2 b h) = A3 (ix1 h) := by
    refine (broadcastInDim_apply _ _ _ _ (ix2 (0 : Fin 1) h) ?_).trans (broadcastInDim_apply _ _ _ _ (ix1 h) ?_)
    · intro a
      match a with
      | ⟨0, _⟩ => rfl
      | ⟨1, _⟩ => rfl
    · intro a
      match a with
      | ⟨0, _⟩ => rfl
  unfold hidden
  rw [rectified_form, sum_form, e1, e2]

def referenceTerm : FVec Ideal S4096x1 .f32 :=
  Host.divf (broadcastInDim S4096x1 ![] bcast_S_S4096x1 (constant (F := Ideal) S_ .f32 0x3F800000#32))
    (addf (broadcastInDim S4096x1 ![] bcast_S_S4096x1 (constant (F := Ideal) S_ .f32 0x3F800000#32))
      (Host.exp (Host.negf (addf (Host.dotGeneral (F := Ideal) (φ₁ := .f32) (φ₂ := .f32) dot_S4096x32_S32x1_S4096x1_1_0_0_1_n_n none (hidden A0 A1 A2 A3) A4)
        (broadcastInDim S4096x1 ![0, 1] bcast_S1x1_S4096x1_0_1 (broadcastInDim S1x1 ![1] bcast_S1_S1x1_1 A5))))))

include hr in
theorem reference_at (b : Fin 4096) : referenceTerm A0 A1 A2 A3 A4 A5 (ix2 b (0 : Fin 1)) = answer A0 A1 A2 A3 A4 A5 b := by
  have e1 : Host.dotGeneral (F := Ideal) (φ₁ := .f32) (φ₂ := .f32) dot_S4096x32_S32x1_S4096x1_1_0_0_1_n_n none (hidden A0 A1 A2 A3) A4 (ix2 b (0 : Fin 1))
      = ∑ h : Fin 32, max (firstLayer A0 A1 A2 b h + A3 (ix1 h)) 0 * A4 (ix2 h (0 : Fin 1)) := by
    refine (StackMember.dotGeneral_plain_apply (m := 4096) (k := 32) (n := 1) none (hidden A0 A1 A2 A3) A4 b 0).trans ?_
    refine Finset.sum_congr rfl fun h _ => ?_
    rw [hidden_at A0 A1 A2 A3 hr]
  have e2 : broadcastInDim S4096x1 ![0, 1] bcast_S1x1_S4096x1_0_1 (broadcastInDim S1x1 ![1] bcast_S1_S1x1_1 A5) (ix2 b (0 : Fin 1)) = A5 (ix1 (0 : Fin 1)) := by
    refine (broadcastInDim_apply _ _ _ _ (ix2 (0 : Fin 1) (0 : Fin 1)) ?_).trans (broadcastInDim_apply _ _ _ _ (ix1 (0 : Fin 1)) ?_)
    · intro a
      match a with
      | ⟨0, _⟩ => rfl
      | ⟨1, _⟩ => rfl
    · intro a
      match a with
      | ⟨0, _⟩ => rfl
  unfold referenceTerm answer perceptron
  rw [logistic_form, sum_form, e1, e2]

end Cert.Proof.Formula

end
-- ==== Proof.Result.lean ====
/-
  The perceptron call's result over the extended reals: what one point adds to the sums, what a batch block's eight points leave in
  them, and the output array, element by element.
-/
module

public import proofs.«01_k».proof.Proof.Region
public import proofs.«01_k».proof.Proof.Formula
public import Idealize.ShloMosaic.Lib.KernelVsHost

@[expose] public section

set_option maxRecDepth 16384

noncomputable section

namespace Cert.Proof.Mlp

open Cert.KernelIdeal Cert.KernelIdeal.Gen

open Idealize.ShloMosaic Idealize.ShloMosaic.TcCoe Idealize.ShloMosaic.ValueIdx
open Idealize.ShloMosaic.Pipeline (Dat)
open Idealize.SL.Sem
open scoped BigOperators

/-! ## One point's sums -/

theorem share_at (x0 : FVec Ideal S25x512x128 .f32) (x1 : FVec Ideal S25x128x32 .f32) (n : ℕ) (hn : n < 25) (q : Fin 512) (h : Fin 32) :
    share (F := Ideal) x0 x1 n hn (ix2 q h) = (∑ k : Fin 128, x0 (ix3 (⟨n, hn⟩ : Fin 25) q k) * x1 (ix3 (⟨n, hn⟩ : Fin 25) k h) : EReal) := by
  unfold share
  rw [matmul_zero_eq_dotGeneral]
  refine (StackMember.dotGeneral_plain_apply (m := 512) (k := 128) (n := 32) none _ _ q h).trans ?_
  refine Finset.sum_congr rfl fun k _ => ?_
  congr 1
  · refine (shapeCast_apply _ _ _ (ix3 (0 : Fin 1) q k) ?_).trans ?_
    · rw [Shape.rowMajor_val_three, Shape.rowMajor_val_two]
      show (0 * 512 + q.val) * 128 + k.val = q.val * 128 + k.val
      omega
    · unfold rowsAt
      refine congrArg x0 (funext fun a => Fin.ext ?_)
      rw [Rect.emb_apply]
      match a with
      | ⟨0, _⟩ => rfl
      | ⟨1, _⟩ => show 0 + 1 * q.val = q.val; omega
      | ⟨2, _⟩ => show 0 + 1 * k.val = k.val; omega
  · refine (shapeCast_apply _ _ _ (ix3 (0 : Fin 1) k h) ?_).trans ?_
    · rw [Shape.rowMajor_val_three, Shape.rowMajor_val_two]
      show (0 * 128 + k.val) * 32 + h.val = k.val * 32 + h.val
      omega
    · unfold weightsAt
      refine congrArg x1 (funext fun a => Fin.ext ?_)
      rw [Rect.emb_apply]
      match a with
      | ⟨0, _⟩ => rfl
      | ⟨1, _⟩ => show 0 + 1 * k.val = k.val; omega
      | ⟨2, _⟩ => show 0 + 1 * h.val = h.val; omega

/-- The shares up to a position add up to the sum of what each position contributes. -/
theorem shares_at (x0 : FVec Ideal S25x512x128 .f32) (x1 : FVec Ideal S25x128x32 .f32) (q : Fin 512) (h : Fin 32) (f : ℕ → EReal)
    (hf : ∀ (n : ℕ) (hn : n < 25), (∑ k : Fin 128, x0 (ix3 (⟨n, hn⟩ : Fin 25) q k) * x1 (ix3 (⟨n, hn⟩ : Fin 25) k h) : EReal) = f n) :
    ∀ (n : ℕ) (hn : n < 25), shares (F := Ideal) x0 x1 n hn (ix2 q h) = ∑ p ∈ Finset.range (n + 1), f p
  | 0, hn => by rw [shares, share_at, hf, Finset.sum_range_one]
  | n + 1, hn => by
    rw [shares, Formula.sum_form, shares_at x0 x1 q h f hf n, share_at, hf, Finset.sum_range_succ f (n + 1)]

theorem grown_at (acc : FVec Ideal S512x32 .f32) (x0 : FVec Ideal S25x512x128 .f32) (x1 : FVec Ideal S25x128x32 .f32) (q : Fin 512) (h : Fin 32)
    (f : ℕ → EReal) (hf : ∀ (n : ℕ) (hn : n < 25), (∑ k : Fin 128, x0 (ix3 (⟨n, hn⟩ : Fin 25) q k) * x1 (ix3 (⟨n, hn⟩ : Fin 25) k h) : EReal) = f n) :
    grown (F := Ideal) acc x0 x1 (ix2 q h) = (acc (ix2 q h) + ∑ p ∈ Finset.range 25, f p : EReal) := by
  unfold grown
  rw [shapeCast_self, Formula.sum_form, shares_at x0 x1 q h f hf 24]

theorem zeroed_at (i : S512x32.Idx) : (k1_pay1 (F := Ideal)) i = (0 : EReal) := by
  unfold k1_pay1
  rw [shapeCast_self]
  exact Ideal.ofBits_zero_f32

/-! ## A point's blocks of the arrays -/

variable (V : (c : Dev nD) → (b : Ref sig .tc) → Buf (Elt Ideal) ((c : Thread nD τ).loc b)) (c : Dev nD)

theorem place0 : ∀ t : Fin cfg1.N, win1_0.index t = ![t.val % 8, t.val / 8, 0] := (by decide +kernel : ∀ t : Fin grid1.N, _)
theorem place1 : ∀ t : Fin cfg1.N, win1_1.index t = ![t.val % 8, 0, 0] := (by decide +kernel : ∀ t : Fin grid1.N, _)
theorem place2 : ∀ t : Fin cfg1.N, win1_2.index t = ![0, 0] := (by decide +kernel : ∀ t : Fin grid1.N, _)
theorem place3 : ∀ t : Fin cfg1.N, win1_3.index t = ![0, 0] := (by decide +kernel : ∀ t : Fin grid1.N, _)
theorem place4 : ∀ t : Fin cfg1.N, win1_4.index t = ![0, 0] := (by decide +kernel : ∀ t : Fin grid1.N, _)
theorem place5 : ∀ t : Fin cfg1.N, win1_5.index t = ![t.val / 8, 0] := (by decide +kernel : ∀ t : Fin grid1.N, _)

/-- The arrays the call finds, at their own shapes. -/
def rowsIn : S200x4096x128.Idx → EReal := V c main_v3
def weightsIn : S200x128x32.Idx → EReal := V c main_v4
def biasIn : S1x32.Idx → EReal := V c main_v5
def outWeightsIn : S1x32.Idx → EReal := V c main_v6
def outBiasIn : S1x1.Idx → EReal := V c main_v7

/-- What position `p` contributes to the hidden sum `h` of batch entry `b`. -/
def contribution (b : Fin 4096) (h : Fin 32) (p : ℕ) : EReal :=
  ∑ k : Fin 128, rowsIn V c (ix3 (⟨p % 200, Nat.mod_lt _ (by decide)⟩ : Fin 200) b k) * weightsIn V c (ix3 (⟨p % 200, Nat.mod_lt _ (by decide)⟩ : Fin 200) k h)

theorem rows_block (t : Fin cfg1.N) (n : Fin 25) (q : Fin 512) (k : Fin 128) (p : Fin 200) (b : Fin 4096) (hp : p.val = 25 * (t.val % 8) + n.val)
    (hb : b.val = 512 * (t.val / 8) + q.val) : (blockAt V c 0 t : S25x512x128.Idx → EReal) (ix3 n q k) = rowsIn V c (ix3 p b k) := by
  have e := place0 t
  have e0 : win1_0.index t (0 : Fin 3) = t.val % 8 := congrFun e 0
  have e1 : win1_0.index t (1 : Fin 3) = t.val / 8 := congrFun e 1
  have e2 : win1_0.index t (2 : Fin 3) = 0 := congrFun e 2
  show V c main_v3 (((cfg1.win 0).blk t).view.emb (ix3 n q k)) = _
  refine congrArg (V c main_v3) (funext fun a => Fin.ext ?_)
  match a with
  | ⟨0, _⟩ => show win1_0.index t (0 : Fin 3) * 25 + 1 * n.val = p.val; rw [e0]; omega
  | ⟨1, _⟩ => show win1_0.index t (1 : Fin 3) * 512 + 1 * q.val = b.val; rw [e1]; omega
  | ⟨2, _⟩ => show win1_0.index t (2 : Fin 3) * 128 + 1 * k.val = k.val; rw [e2]; omega

theorem weights_block (t : Fin cfg1.N) (n : Fin 25) (k : Fin 128) (h : Fin 32) (p : Fin 200) (hp : p.val = 25 * (t.val % 8) + n.val) :
    (blockAt V c 1 t : S25x128x32.Idx → EReal) (ix3 n k h) = weightsIn V c (ix3 p k h) := by
  have e := place1 t
  have e0 : win1_1.index t (0 : Fin 3) = t.val % 8 := congrFun e 0
  have e1 : win1_1.index t (1 : Fin 3) = 0 := congrFun e 1
  have e2 : win1_1.index t (2 : Fin 3) = 0 := congrFun e 2
  show V c main_v4 (((cfg1.win 1).blk t).view.emb (ix3 n k h)) = _
  refine congrArg (V c main_v4) (funext fun a => Fin.ext ?_)
  match a with
  | ⟨0, _⟩ => show win1_1.index t (0 : Fin 3) * 25 + 1 * n.val = p.val; rw [e0]; omega
  | ⟨1, _⟩ => show win1_1.index t (1 : Fin 3) * 128 + 1 * k.val = k.val; rw [e1]; omega
  | ⟨2, _⟩ => show win1_1.index t (2 : Fin 3) * 32 + 1 * h.val = h.val; rw [e2]; omega

/-- The three small arrays are taken whole. -/
theorem bias_block (t : Fin cfg1.N) : (blockAt V c 2 t : S1x32.Idx → EReal) = biasIn V c := by
  have e0 : win1_2.index t (0 : Fin 2) = 0 := congrFun (place2 t) 0
  have e1 : win1_2.index t (1 : Fin 2) = 0 := congrFun (place2 t) 1
  refine funext fun y => congrArg (V c main_v5) (funext fun a => Fin.ext ?_)
  match a with
  | ⟨0, _⟩ => show win1_2.index t (0 : Fin 2) * 1 + 1 * (y 0).val = (y 0).val; rw [e0]; omega
  | ⟨1, _⟩ => show win1_2.index t (1 : Fin 2) * 32 + 1 * (y 1).val = (y 1).val; rw [e1]; omega
theorem outWeights_block (t : Fin cfg1.N) : (blockAt V c 3 t : S1x32.Idx → EReal) = outWeightsIn V c := by
  have e0 : win1_3.index t (0 : Fin 2) = 0 := congrFun (place3 t) 0
  have e1 : win1_3.index t (1 : Fin 2) = 0 := congrFun (place3 t) 1
  refine funext fun y => congrArg (V c main_v6) (funext fun a => Fin.ext ?_)
  match a with
  | ⟨0, _⟩ => show win1_3.index t (0 : Fin 2) * 1 + 1 * (y 0).val = (y 0).val; rw [e0]; omega
  | ⟨1, _⟩ => show win1_3.index t (1 : Fin 2) * 32 + 1 * (y 1).val = (y 1).val; rw [e1]; omega
theorem outBias_block (t : Fin cfg1.N) : (blockAt V c 4 t : S1x1.Idx → EReal) = outBiasIn V c := by
  have e0 : win1_4.index t (0 : Fin 2) = 0 := congrFun (place4 t) 0
  have e1 : win1_4.index t (1 : Fin 2) = 0 := congrFun (place4 t) 1
  refine funext fun y => congrArg (V c main_v7) (funext fun a => Fin.ext ?_)
  match a with
  | ⟨0, _⟩ => show win1_4.index t (0 : Fin 2) * 1 + 1 * (y 0).val = (y 0).val; rw [e0]; omega
  | ⟨1, _⟩ => show win1_4.index t (1 : Fin 2) * 1 + 1 * (y 1).val = (y 1).val; rw [e1]; omega

/-! ## The sums a batch block's points leave -/

/-- What a point adds. -/
theorem added_at (t : Fin cfg1.N) (q : Fin 512) (h : Fin 32) (b : Fin 4096) (hb : b.val = 512 * (t.val / 8) + q.val) (acc : FVec Ideal S512x32 .f32) :
    grown (F := Ideal) acc (blockAt V c 0 t) (blockAt V c 1 t) (ix2 q h)
      = (acc (ix2 q h) + ∑ p ∈ Finset.range 25, contribution V c b h (25 * (t.val % 8) + p) : EReal) := by
  refine grown_at acc _ _ q h _ fun n hn => Finset.sum_congr rfl fun k _ => ?_
  have hp : (25 * (t.val % 8) + n) % 200 = 25 * (t.val % 8) + n := by omega
  rw [rows_block V c t ⟨n, hn⟩ q k ⟨(25 * (t.val % 8) + n) % 200, Nat.mod_lt _ (by decide)⟩ b hp hb,
    weights_block V c t ⟨n, hn⟩ k h ⟨(25 * (t.val % 8) + n) % 200, Nat.mod_lt _ (by decide)⟩ hp]

/-- After a batch block's point `j` the sums hold what the first `25 * (j + 1)` positions contribute. -/
theorem sums_at (i : ℕ) (q : Fin 512) (h : Fin 32) (b : Fin 4096) (hb : b.val = 512 * i + q.val) :
    ∀ (j : ℕ) (hj : j < 8) (n : ℕ) (hn : n < cfg1.N), n = 8 * i + j →
      sums V c n hn (ix2 q h) = ∑ p ∈ Finset.range (25 * (j + 1)), contribution V c b h p := by
  intro j
  induction j with
  | zero =>
    intro _ n hn e
    have hq : (⟨n, hn⟩ : Fin cfg1.N).val / 8 = i := by show n / 8 = i; omega
    have hm : (⟨n, hn⟩ : Fin cfg1.N).val % 8 = 0 := by show n % 8 = 0; omega
    have key := added_at V c ⟨n, hn⟩ q h b (by rw [hq]; exact hb) k1_pay1
    rw [hm, zeroed_at, zero_add] at key
    have hs : sums V c n hn = grown k1_pay1 (blockAt V c 0 ⟨n, hn⟩) (blockAt V c 1 ⟨n, hn⟩) := by
      cases n with
      | zero => rfl
      | succ n =>
        show grown (start _ _) _ _ = _
        rw [start, if_pos ((isFirst_iff ⟨n + 1, hn⟩).mpr hm)]
    rw [hs, key]
    refine Finset.sum_congr rfl fun p _ => ?_
    rw [Nat.mul_zero, Nat.zero_add]
  | succ j ih =>
    intro hj n hn e
    obtain ⟨n, rfl⟩ : ∃ k, n = k + 1 := ⟨8 * i + j, by omega⟩
    have hq : (⟨n + 1, hn⟩ : Fin cfg1.N).val / 8 = i := by show (n + 1) / 8 = i; omega
    have hm : (⟨n + 1, hn⟩ : Fin cfg1.N).val % 8 = j + 1 := by show (n + 1) % 8 = j + 1; omega
    have hs : sums V c (n + 1) hn = grown (sums V c n (Nat.lt_of_succ_lt hn)) (blockAt V c 0 ⟨n + 1, hn⟩) (blockAt V c 1 ⟨n + 1, hn⟩) := by
      show grown (start _ _) _ _ = _
      rw [start, if_neg (fun hf => by have := (isFirst_iff ⟨n + 1, hn⟩).mp hf; omega)]
    rw [hs, added_at V c ⟨n + 1, hn⟩ q h b (by rw [hq]; exact hb), hm, ih (by omega) n (Nat.lt_of_succ_lt hn) (by omega),
      show 25 * (j + 1 + 1) = 25 * (j + 1) + 25 by omega, Finset.sum_range_add]

/-! ## The output -/

/-- The output's block, from the sums: bias, rectifier, second layer, bias, logistic function. -/
theorem pay_at (S : FVec Ideal S512x32 .f32) (b1 w2 : FVec Ideal S1x32 .f32) (b2 : FVec Ideal S1x1 .f32) (q : Fin 512) :
    k1_pay3 (F := Ideal) S b1 w2 b2 (ix2 q (0 : Fin 1))
      = Formula.perceptron (fun h => S (ix2 q h)) (fun h => b1 (ix2 (0 : Fin 1) h)) (fun h => w2 (ix2 (0 : Fin 1) h)) (b2 (ix2 (0 : Fin 1) (0 : Fin 1))) := by
  have along (x : FVec Ideal S1x32 .f32) (h : Fin 32) :
      broadcastTo S512x32 (shapeCast S1x32 x shapeCasts_S1x32_S1x32) broadcasts_S1x32_S512x32 (ix2 q h) = x (ix2 (0 : Fin 1) h) := by
    rw [shapeCast_self]
    refine broadcastTo_apply _ _ _ (ix2 (0 : Fin 1) h) fun a => ?_
    match a with
    | ⟨0, _⟩ => rfl
    | ⟨1, _⟩ => rfl
  have bias : broadcastTo S512x1 (shapeCast S1x1 b2 shapeCasts_S1x1_S1x1) broadcasts_S1x1_S512x1 (ix2 q (0 : Fin 1)) = b2 (ix2 (0 : Fin 1) (0 : Fin 1)) := by
    rw [shapeCast_self]
    refine broadcastTo_apply _ _ _ (ix2 (0 : Fin 1) (0 : Fin 1)) fun a => ?_
    match a with
    | ⟨0, _⟩ => rfl
    | ⟨1, _⟩ => rfl
  have total (x : FVec Ideal S512x32 .f32) :
      shapeCast S512x1 (multiReduction .add [1] S512 x 0x00000000#32 reduces_S512x32_S512 (.inl rfl) rfl) shapeCasts_S512_S512x1 (ix2 q (0 : Fin 1))
        = (∑ h : Fin 32, x (ix2 q h) : EReal) := by
    refine (shapeCast_apply _ _ _ (ix1 q) ?_).trans ((Ideal.multiReduction_add_single x _ _ _ _ (ix1 q)).trans ?_)
    · rw [Shape.rowMajor_val_one, Shape.rowMajor_val_two]
      show q.val = q.val * 1 + 0
      omega
    · refine Finset.sum_congr rfl fun h _ => congrArg x (funext fun a => Fin.ext ?_)
      rw [Shape.Reduces.lift_val]
      match a with
      | ⟨0, _⟩ => rfl
      | ⟨1, _⟩ => rfl
  have top (x : FVec Ideal S512x1 .f32) (i : S512x1.Idx) : logistic x i = Ideal.logistic (x i) := rfl
  have unit (x y : FVec Ideal S512x32 .f32) (i : S512x32.Idx) :
      mulf (maximumf x (broadcast S512x32 (Scalar.ofBits .f32 0x00000000#32))) y i = (max (x i : EReal) 0 * (y i : EReal) : EReal) := by
    show max (x i : EReal) (Ideal.ofBits .f32 0x00000000#32) * (y i : EReal) = _
    rw [Ideal.ofBits_zero_f32]
  unfold k1_pay3 Formula.perceptron
  rw [top, Formula.sum_form, total, bias]
  refine congrArg (fun z => Ideal.logistic (z + _)) (Finset.sum_congr rfl fun h _ => ?_)
  rw [unit, Formula.sum_form, along, along]

/-- The hidden sum before its bias. -/
def hiddenSum (b : Fin 4096) (h : Fin 32) : EReal := ∑ p ∈ Finset.range 200, contribution V c b h p

/-- The output's element of a batch entry. -/
def outputAt (b : Fin 4096) : EReal :=
  Formula.perceptron (hiddenSum V c b) (fun h => biasIn V c (ix2 (0 : Fin 1) h)) (fun h => outWeightsIn V c (ix2 (0 : Fin 1) h))
    (outBiasIn V c (ix2 (0 : Fin 1) (0 : Fin 1)))

/-- The block the last point of a batch block makes. -/
theorem made_at (t : Fin cfg1.N) (hl : t.val % 8 = 7) (q : Fin 512) (b : Fin 4096) (hb : b.val = 512 * (t.val / 8) + q.val) :
    made V c t (ix2 q (0 : Fin 1)) = outputAt V c b := by
  unfold made
  refine (pay_at _ _ _ _ q).trans ?_
  unfold outputAt
  rw [bias_block, outWeights_block, outBias_block]
  refine congrArg (fun S => Formula.perceptron S _ _ _) (funext fun h => ?_)
  exact sums_at V c (t.val / 8) q h b hb 7 (by omega) t.val t.isLt (by omega)

/-- The whole output. -/
def outputIs : S4096x1.Idx → EReal := fun i => outputAt V c (i 0)

theorem written (t : Fin cfg1.N) (hf : (cfg1.win 5).flush t = true) :
    (dats V c).flushed 5 t = ((cfg1.win 5).blk t).view.read (Elt Ideal) (outputIs V c) := by
  have hl : t.val % 8 = 7 := (flush1_5 t).mp hf
  have e0 : win1_5.index t (0 : Fin 2) = t.val / 8 := congrFun (place5 t) 0
  have e1 : win1_5.index t (1 : Fin 2) = 0 := congrFun (place5 t) 1
  show (cfg1.win 5).cut (grid1.coords t) ((dats V c).after 5 t) = _
  rw [after_5]
  funext y
  have hy1 : (y 1).val < 1 := (y 1).isLt
  have hy : (cfg1.win 5).xinj (grid1.coords t) y = ix2 (⟨(y 0).val, (y 0).isLt⟩ : Fin 512) (0 : Fin 1) := by
    funext a; apply Fin.ext
    match a with
    | ⟨0, _⟩ => rfl
    | ⟨1, _⟩ => show (y 1).val = 0; omega
  show made V c t ((cfg1.win 5).xinj (grid1.coords t) y) = outputIs V c (((cfg1.win 5).blk t).view.emb y)
  rw [hy]
  refine made_at V c t hl _ _ ?_
  show win1_5.index t (0 : Fin 2) * 512 + 1 * (y 0).val = 512 * (t.val / 8) + (y 0).val
  rw [e0]; omega

theorem covered (i : S4096x1.Idx) : ∃ t : Fin cfg1.N, (cfg1.win 5).flush t = true ∧ i ∈ ((cfg1.win 5).blk t).view.set := by
  have h0 : (i 0).val < 4096 := (i 0).isLt
  have h1 : (i 1).val < 1 := (i 1).isLt
  obtain ⟨t, ht⟩ : ∃ t : Fin cfg1.N, t.val = 8 * ((i 0).val / 512) + 7 := ⟨⟨8 * ((i 0).val / 512) + 7, by rw [points]; omega⟩, rfl⟩
  have e0 : win1_5.index t (0 : Fin 2) = t.val / 8 := congrFun (place5 t) 0
  have e1 : win1_5.index t (1 : Fin 2) = 0 := congrFun (place5 t) 1
  refine ⟨t, (flush1_5 t).mpr (by omega), ?_⟩
  show i ∈ ((View.whole main_v8).slice (win1_5.rect t)).set
  rw [View.set_slice_whole, Rect.mem_set_unit]
  intro a
  match a with
  | ⟨0, _⟩ => show win1_5.index t (0 : Fin 2) * 512 ≤ (i 0).val ∧ (i 0).val < win1_5.index t (0 : Fin 2) * 512 + 512; omega
  | ⟨1, _⟩ => show win1_5.index t (1 : Fin 2) * 1 ≤ (i 1).val ∧ (i 1).val < win1_5.index t (1 : Fin 2) * 1 + 1; omega

/-- The call leaves the output at the perceptron of each batch entry. -/
theorem result_eq : result V c = outputIs V c :=
  (dats V c).arrAt_eq_of_cover 5 _ (fun t hf => written V c t hf) (fun i => covered i)

end Cert.Proof.Mlp

end
-- ==== Proof.Agree.lean ====
/-
  The kernel and the reference agree over the extended reals: what the perceptron's call finds, read back to the arguments, and the
  two runs side by side.
-/
module

public import proofs.«01_k».proof.Proof.Frames
public import proofs.«01_k».proof.Proof.Result

@[expose] public section

set_option maxRecDepth 16384

noncomputable section

namespace Cert.Proof.Launch

open Cert.KernelIdeal Cert.KernelIdeal.Gen
open Cert.Proof.Tile (xLoc tLoc oLoc rowsOf)
open Cert.Proof.Rows
open Cert.Proof.Mlp (rowsIn weightsIn biasIn outWeightsIn outBiasIn contribution hiddenSum outputAt outputIs result_eq)
open Cert.Proof.Formula (flatPos embedding firstLayer answer)

open Idealize.ShloMosaic Idealize.ShloMosaic.TcCoe Idealize.ShloMosaic.ValueIdx
open Idealize.ShloMosaic.StableHlo (launchContents)
open Idealize.ShloMosaic.Pipeline (ucRefs)
open Idealize.SL.Sem
open scoped BigOperators

variable (m : (ℓ : Loc nD τ sig) → Buf (Elt Ideal) ℓ) (c : Dev nD)

/-! ## The arguments, at their own shapes -/

def idxs : S4096x200.Idx → BitVec 32 := m ((c : Thread nD τ).loc main_arg0)
def table : S100000x128.Idx → EReal := m ((c : Thread nD τ).loc main_arg1)
def weights1 : S25600x32.Idx → EReal := m ((c : Thread nD τ).loc main_arg2)
def bias1 : S32.Idx → EReal := m ((c : Thread nD τ).loc main_arg3)
def weights2 : S32x1.Idx → EReal := m ((c : Thread nD τ).loc main_arg4)
def bias2 : S1.Idx → EReal := m ((c : Thread nD τ).loc main_arg5)

/-! ## What the perceptron's call finds -/

/-- The rows: position `t`, batch entry `b`, lane `k`. -/
theorem rows_found (t : Fin 200) (b : Fin 4096) (k : Fin 128) :
    rowsIn (found m) c (ix3 t b k) = embedding (idxs m c) (table m c) b t k := by
  have e : rowsIn (found m) c = shapeCast S200x4096x128 (rowsOf (X m) (E m) c) shapeCasts_S819200x128_S200x4096x128 := by
    unfold rowsIn found shaped
    rw [kept _ _ main_v7 _ rfl (by decide), kept _ _ main_v6 _ rfl (by decide), kept _ _ main_v5 _ rfl (by decide),
      kept _ _ main_v4 _ rfl (by decide), StableHlo.reshape_result', fetched, Function.update_self]
    rfl
  rw [e]
  refine (shapeCast_apply _ _ _ (ix2 (⟨t.val * 4096 + b.val, by omega⟩ : Fin 819200) k) ?_).trans ?_
  · rw [Shape.rowMajor_val_three, Shape.rowMajor_val_two]
    show (t.val * 4096 + b.val) * 128 + k.val = (t.val * 4096 + b.val) * 128 + k.val
    rfl
  · show E m c (cell (X m c (line (t.val * 4096 + b.val))).toNat k.val) = _
    rw [X_line]
    rfl

theorem weights_found (t : Fin 200) (k : Fin 128) (h : Fin 32) : weightsIn (found m) c (ix3 t k h) = weights1 m c (ix2 (flatPos t k) h) := by
  have e : weightsIn (found m) c = shapeCast S200x128x32 (weights1 m c) shapeCasts_S25600x32_S200x128x32 := by
    unfold weightsIn found shaped
    rw [kept _ _ main_v7 _ rfl (by decide), kept _ _ main_v6 _ rfl (by decide), kept _ _ main_v5 _ rfl (by decide),
      StableHlo.reshape_result', kept _ _ main_v3 _ rfl (by decide), fetched_of m c main_arg2 (by decide) (by decide) (by decide)]
    rfl
  rw [e]
  refine shapeCast_apply _ _ _ (ix2 (flatPos t k) h) ?_
  rw [Shape.rowMajor_val_three, Shape.rowMajor_val_two]
  show (t.val * 128 + k.val) * 32 + h.val = (t.val * 128 + k.val) * 32 + h.val
  rfl

theorem bias_found (h : Fin 32) : biasIn (found m) c (ix2 (0 : Fin 1) h) = bias1 m c (ix1 h) := by
  have e : biasIn (found m) c = shapeCast S1x32 (bias1 m c) shapeCasts_S32_S1x32 := by
    unfold biasIn found shaped
    rw [kept _ _ main_v7 _ rfl (by decide), kept _ _ main_v6 _ rfl (by decide), StableHlo.reshape_result', kept _ _ main_v4 _ rfl (by decide),
      kept _ _ main_v3 _ rfl (by decide), fetched_of m c main_arg3 (by decide) (by decide) (by decide)]
    rfl
  rw [e]
  refine shapeCast_apply _ _ _ (ix1 h) ?_
  rw [Shape.rowMajor_val_one, Shape.rowMajor_val_two]
  show h.val = 0 * 32 + h.val
  omega

theorem outWeights_found (h : Fin 32) : outWeightsIn (found m) c (ix2 (0 : Fin 1) h) = weights2 m c (ix2 h (0 : Fin 1)) := by
  have e : outWeightsIn (found m) c = shapeCast S1x32 (weights2 m c) shapeCasts_S32x1_S1x32 := by
    unfold outWeightsIn found shaped
    rw [kept _ _ main_v7 _ rfl (by decide), StableHlo.reshape_result', kept _ _ main_v5 _ rfl (by decide), kept _ _ main_v4 _ rfl (by decide),
      kept _ _ main_v3 _ rfl (by decide), fetched_of m c main_arg4 (by decide) (by decide) (by decide)]
    rfl
  rw [e]
  refine shapeCast_apply _ _ _ (ix2 h (0 : Fin 1)) ?_
  rw [Shape.rowMajor_val_two, Shape.rowMajor_val_two]
  show h.val * 1 + 0 = 0 * 32 + h.val
  omega

theorem outBias_found : outBiasIn (found m) c (ix2 (0 : Fin 1) (0 : Fin 1)) = bias2 m c (ix1 (0 : Fin 1)) := by
  have e : outBiasIn (found m) c = shapeCast S1x1 (bias2 m c) shapeCasts_S1_S1x1 := by
    unfold outBiasIn found shaped
    rw [StableHlo.reshape_result', kept _ _ main_v6 _ rfl (by decide), kept _ _ main_v5 _ rfl (by decide), kept _ _ main_v4 _ rfl (by decide),
      kept _ _ main_v3 _ rfl (by decide), fetched_of m c main_arg5 (by decide) (by decide) (by decide)]
    rfl
  rw [e]
  refine shapeCast_apply _ _ _ (ix1 (0 : Fin 1)) ?_
  rw [Shape.rowMajor_val_one, Shape.rowMajor_val_two]
  rfl

/-! ## The kernel's answer -/

/-- The positions' contributions, in the order the grid adds them, make the first layer's sum. -/
theorem hidden_is (b : Fin 4096) (h : Fin 32) : hiddenSum (found m) c b h = firstLayer (idxs m c) (table m c) (weights1 m c) b h := by
  unfold hiddenSum firstLayer
  rw [Finset.sum_range]
  refine Finset.sum_congr rfl fun t _ => ?_
  unfold contribution
  have ht : (⟨t.val % 200, Nat.mod_lt _ (by decide)⟩ : Fin 200) = t := Fin.ext (Nat.mod_eq_of_lt t.isLt)
  refine Finset.sum_congr rfl fun k _ => ?_
  rw [ht, rows_found, weights_found]

def answers : S4096x1.Idx → EReal :=
  fun i => answer (idxs m c) (table m c) (weights1 m c) (bias1 m c) (weights2 m c) (bias2 m c) (i 0)

theorem output_is : final m c (r main_v8) = answers m c := by
  rw [final, Function.update_self, result_eq]
  funext i
  show outputAt (found m) c (i 0) = _
  unfold outputAt answers answer
  rw [funext fun h => hidden_is m c (i 0) h, funext fun h => bias_found m c h, funext fun h => outWeights_found m c h, outBias_found]

/-! ## The two runs -/

/-- The reference's result is that answer, its arguments being the kernel's. -/
theorem reference_is (hr : ∀ (b : Fin 4096) (t : Fin 200), (idxs m c (ix2 b t)).toNat < 100000) :
    Formula.referenceTerm (idxs m c) (table m c) (weights1 m c) (bias1 m c) (weights2 m c) (bias2 m c) = answers m c := by
  funext i
  have hi : i = ix2 (i 0) (0 : Fin 1) := by
    funext a
    match a with
    | ⟨0, _⟩ => rfl
    | ⟨1, _⟩ => exact Fin.ext (by have := (i 1).isLt; show (i 1).val = 0; exact Nat.lt_one_iff.mp this)
  rw [hi]
  exact Formula.reference_at _ _ _ _ _ _ hr (i 0)

theorem agree : Cert.algebraic_KernelIdeal_ReferenceIdeal := by
  intro m g m' g' hpre hargs
  have hr (d : Dev nD) (b : Fin 4096) (t : Fin 200) : (m ((d : Thread nD τ).loc main_arg0) (ix2 b t)).toNat < 100000 :=
    range_of_pre _ _ _ _ _ _ (hpre d) b t
  refine ⟨fun c => answers m c, ?_, ?_⟩
  · refine (θ_run _ _ _).mono (fun s hs c => ⟨?_, unchanged_of m s.2 c (hs.1 c)⟩) (run_main (F := Ideal) m g (X_lt m hr))
    exact (hs.1 c (r main_v8) (Finset.mem_filter.mpr ⟨StableHlo.devRef_mem_tcRefs main_v8, by decide⟩)).trans (output_is m c)
  · refine (θ_run _ _ _).mono (fun s hs c => ⟨?_, (hs c).2⟩) (Cert.ReferenceIdeal.Value.run (F := Ideal) m' g')
    refine (hs c).1.trans ?_
    obtain ⟨a0, a1, a2, a3, a4, a5⟩ := hargs c
    rw [a0, a1, a2, a3, a4, a5]
    exact reference_is m c (hr c)

end Cert.Proof.Launch

end
-- ==== Proof.lean ====
/-
  Everything the certificate claims, from the modules that prove each part: the frames (Frames.lean) and the agreement with the
  reference (Agree.lean). The idealization replaces nothing, so that it preserves the program is `True`.
-/
module

public import proofs.«01_k».proof.Defs
public import proofs.«01_k».proof.Proof.Frames
public import proofs.«01_k».proof.Proof.Agree
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_in_vocabulary

@[expose] public section

noncomputable section

namespace Cert.Proof

theorem claim : Cert.Claim :=
  ⟨Cert.Kernel.Gen.facts, Cert.KernelIdeal.Gen.facts, Cert.ReferenceIdeal.Gen.facts, Cert.Pre_in_vocabulary.Gen.facts,
    Launch.frame_Kernel, Launch.frame_KernelIdeal, Launch.frame_ReferenceIdeal, Launch.frame_ReferenceIdeal_pre, trivial, Launch.agree⟩

end Cert.Proof

end
